-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x20000x14 : Shape := ⟨3, ![4, 20000, 14]⟩
abbrev S_ : Shape := ⟨0, ![]⟩
abbrev S4x20480x14 : Shape := ⟨3, ![4, 20480, 14]⟩
abbrev S4x14x20480 : Shape := ⟨3, ![4, 14, 20480]⟩
abbrev S4x14x160x128 : Shape := ⟨4, ![4, 14, 160, 128]⟩
abbrev S4x20x11 : Shape := ⟨3, ![4, 20, 11]⟩
abbrev S4x384x384 : Shape := ⟨3, ![4, 384, 384]⟩
abbrev S1x384 : Shape := ⟨2, ![1, 384]⟩
abbrev S160x128 : Shape := ⟨2, ![160, 128]⟩
abbrev S1x14x160x128 : Shape := ⟨4, ![1, 14, 160, 128]⟩
abbrev S14x160x128 : Shape := ⟨3, ![14, 160, 128]⟩
abbrev S1x160x128 : Shape := ⟨3, ![1, 160, 128]⟩
abbrev S1 : Shape := ⟨1, ![1]⟩
abbrev S1x1x1 : Shape := ⟨3, ![1, 1, 1]⟩
abbrev S160x384 : Shape := ⟨2, ![160, 384]⟩
abbrev S128x384 : Shape := ⟨2, ![128, 384]⟩
abbrev S384x384 : Shape := ⟨2, ![384, 384]⟩
abbrev S16x384 : Shape := ⟨2, ![16, 384]⟩
abbrev S20x384 : Shape := ⟨2, ![20, 384]⟩
abbrev S20x3 : Shape := ⟨2, ![20, 3]⟩
abbrev S160x640 : Shape := ⟨2, ![160, 640]⟩
abbrev S640x384 : Shape := ⟨2, ![640, 384]⟩
abbrev S384 : Shape := ⟨1, ![384]⟩
abbrev S384x1 : Shape := ⟨2, ![384, 1]⟩
abbrev S1x384x384 : Shape := ⟨3, ![1, 384, 384]⟩
abbrev S1x16x384 : Shape := ⟨3, ![1, 16, 384]⟩
abbrev S1x1x384 : Shape := ⟨3, ![1, 1, 384]⟩
abbrev S20x1 : Shape := ⟨2, ![20, 1]⟩
abbrev S20x4 : Shape := ⟨2, ![20, 4]⟩
abbrev S20x11 : Shape := ⟨2, ![20, 11]⟩
abbrev S1x20x11 : Shape := ⟨3, ![1, 20, 11]⟩

abbrev nBuf : Space → Nat
  | .hbm => 7
  | .vmem => 3
  | .smem => 0
  | _ => 0

abbrev bufTy : (tb : Table) → Fin (tcTables nBuf tb) → BufTy
  | .hbm, ⟨0, _⟩ => ⟨S4x20000x14, .f32⟩
  | .hbm, ⟨1, _⟩ => ⟨S_, .i32⟩
  | .hbm, ⟨2, _⟩ => ⟨S_, .f32⟩
  | .hbm, ⟨3, _⟩ => ⟨S4x20480x14, .f32⟩
  | .hbm, ⟨4, _⟩ => ⟨S4x14x20480, .f32⟩
  | .hbm, ⟨5, _⟩ => ⟨S4x14x160x128, .f32⟩
  | .hbm, ⟨6, _⟩ => ⟨S4x20x11, .f32⟩
  | .local _ .vmem, ⟨0, _⟩ => ⟨S4x14x160x128, .f32⟩
  | .local _ .vmem, ⟨1, _⟩ => ⟨S4x20x11, .f32⟩
  | .local _ .vmem, ⟨2, _⟩ => ⟨S4x384x384, .f32⟩
  | _, _ => ⟨S4x20000x14, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_call0_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v363 : BitVec 32 := Scalar.addi c0_i32 c300_i32
  let c1_i32 : BitVec 32 := 1#32
  ⟨c0_i32, v363, c1_i32⟩
@[reducible] def k0_t2_loop : Scf.Loop 32 :=
  let c0_i32_151 : BitVec 32 := 0#32
  let c19_i32 : BitVec 32 := 19#32
  let v695 : BitVec 32 := Scalar.addi c0_i32_151 c19_i32
  let c1_i32_152 : BitVec 32 := 1#32
  ⟨c0_i32_151, v695, c1_i32_152⟩
def k0_off1 (k0_t2 : Fin k0_t2_loop.trips) : Fin 3 → Nat :=
  let c0_222 : Index := 0#32
  let c0_i32_151 : BitVec 32 := 0#32
  let c1_i32_152 : BitVec 32 := 1#32
  let arg3 : BitVec 32 := Scf.iv c0_i32_151 c1_i32_152 k0_t2
  let c16_i32 : BitVec 32 := 16#32
  let v865 : BitVec 32 := Scalar.muli arg3 c16_i32
  let v873 : Index := Scalar.indexCast v865
  let c0_223 : Index := 0#32
  ![0, v873.toNat, 0]
def k0_off2 (k0_t2 : Fin k0_t2_loop.trips) : Fin 3 → Nat :=
  let c1_225 : Index := 1#32
  let c0_i32_151 : BitVec 32 := 0#32
  let c1_i32_152 : BitVec 32 := 1#32
  let arg3 : BitVec 32 := Scf.iv c0_i32_151 c1_i32_152 k0_t2
  let c16_i32 : BitVec 32 := 16#32
  let v865 : BitVec 32 := Scalar.muli arg3 c16_i32
  let v879 : Index := Scalar.indexCast v865
  let c0_226 : Index := 0#32
  ![1, v879.toNat, 0]
def k0_off3 (k0_t2 : Fin k0_t2_loop.trips) : Fin 3 → Nat :=
  let c2_228 : Index := 2#32
  let c0_i32_151 : BitVec 32 := 0#32
  let c1_i32_152 : BitVec 32 := 1#32
  let arg3 : BitVec 32 := Scf.iv c0_i32_151 c1_i32_152 k0_t2
  let c16_i32 : BitVec 32 := 16#32
  let v865 : BitVec 32 := Scalar.muli arg3 c16_i32
  let v885 : Index := Scalar.indexCast v865
  let c0_229 : Index := 0#32
  ![2, v885.toNat, 0]
def k0_off4 (k0_t2 : Fin k0_t2_loop.trips) : Fin 3 → Nat :=
  let c3_231 : Index := 3#32
  let c0_i32_151 : BitVec 32 := 0#32
  let c1_i32_152 : BitVec 32 := 1#32
  let arg3 : BitVec 32 := Scf.iv c0_i32_151 c1_i32_152 k0_t2
  let c16_i32 : BitVec 32 := 16#32
  let v865 : BitVec 32 := Scalar.muli arg3 c16_i32
  let v891 : Index := Scalar.indexCast v865
  let c0_232 : Index := 0#32
  ![3, v891.toNat, 0]
abbrev stage0_0 : Fin 1 → Memref sig .tc .vmem S4x14x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x20x11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x20000x14 : Shape := ⟨3, ![4, 20000, 14]⟩
abbrev S9x3 : Shape := ⟨2, ![9, 3]⟩
abbrev S4x20000x4 : Shape := ⟨3, ![4, 20000, 4]⟩
abbrev S4x20000x1 : Shape := ⟨3, ![4, 20000, 1]⟩
abbrev S4x20000 : Shape := ⟨2, ![4, 20000]⟩
abbrev S4x20000x9 : Shape := ⟨3, ![4, 20000, 9]⟩
abbrev S_ : Shape := ⟨0, ![]⟩
abbrev S20000 : Shape := ⟨1, ![20000]⟩
abbrev S4x300 : Shape := ⟨2, ![4, 300]⟩
abbrev S4x300x1 : Shape := ⟨3, ![4, 300, 1]⟩
abbrev S4x300x4 : Shape := ⟨3, ![4, 300, 4]⟩
abbrev S4x300x2 : Shape := ⟨3, ![4, 300, 2]⟩
abbrev S4x300x1x2 : Shape := ⟨4, ![4, 300, 1, 2]⟩
abbrev S4x1x300x2 : Shape := ⟨4, ![4, 1, 300, 2]⟩
abbrev S4x300x300x2 : Shape := ⟨4, ![4, 300, 300, 2]⟩
abbrev S4x300x300x1 : Shape := ⟨4, ![4, 300, 300, 1]⟩
abbrev S4x300x300 : Shape := ⟨3, ![4, 300, 300]⟩
abbrev S4x1x300 : Shape := ⟨3, ![4, 1, 300]⟩
abbrev S4x300x6 : Shape := ⟨3, ![4, 300, 6]⟩
abbrev S300 : Shape := ⟨1, ![300]⟩
abbrev S4x1 : Shape := ⟨2, ![4, 1]⟩
abbrev S1x300 : Shape := ⟨2, ![1, 300]⟩
abbrev S4x20x6 : Shape := ⟨3, ![4, 20, 6]⟩
abbrev S4 : Shape := ⟨1, ![4]⟩
abbrev S4x20x1 : Shape := ⟨3, ![4, 20, 1]⟩
abbrev S4x20 : Shape := ⟨2, ![4, 20]⟩
abbrev S4x20x3 : Shape := ⟨3, ![4, 20, 3]⟩
abbrev S4x20x4 : Shape := ⟨3, ![4, 20, 4]⟩
abbrev S4x20x11 : Shape := ⟨3, ![4, 20, 11]⟩

abbrev nBuf : Space → Nat
  | .hbm => 273
  | .vmem => 0
  | .smem => 0
  | _ => 0

abbrev hbmTy0_0 (i : Nat) : BufTy := match i % 128 with
  | 0 => ⟨S4x20000x14, .f32⟩
  | 1 => ⟨S9x3, .f32⟩
  | 2 => ⟨S9x3, .f32⟩
  | 3 => ⟨S4x20000x4, .f32⟩
  | 4 => ⟨S4x20000x1, .f32⟩
  | 5 => ⟨S4x20000, .f32⟩
  | 6 => ⟨S4x20000x9, .f32⟩
  | 7 => ⟨S4x20000x1, .f32⟩
  | 8 => ⟨S4x20000x9, .f32⟩
  | 9 => ⟨S4x20000x9, .f32⟩
  | 10 => ⟨S_, .f32⟩
  | 11 => ⟨S4x20000, .f32⟩
  | 12 => ⟨S4x20000x9, .i32⟩
  | 13 => ⟨S_, .f32⟩
  | 14 => ⟨S_, .i32⟩
  | 15 => ⟨S4x20000, .f32⟩
  | 16 => ⟨S4x20000, .i32⟩
  | 17 => ⟨S4x20000x1, .f32⟩
  | 18 => ⟨S4x20000, .f32⟩
  | 19 => ⟨S4x20000x1, .f32⟩
  | 20 => ⟨S4x20000, .f32⟩
  | 21 => ⟨S4x20000x1, .f32⟩
  | 22 => ⟨S4x20000, .f32⟩
  | 23 => ⟨S4x20000x1, .f32⟩
  | 24 => ⟨S4x20000, .f32⟩
  | 25 => ⟨S_, .f32⟩
  | 26 => ⟨S4x20000, .f32⟩
  | 27 => ⟨S4x20000, .f32⟩
  | 28 => ⟨S4x20000, .f32⟩
  | 29 => ⟨S_, .f32⟩
  | 30 => ⟨S4x20000, .f32⟩
  | 31 => ⟨S4x20000, .f32⟩
  | 32 => ⟨S4x20000, .f32⟩
  | 33 => ⟨S_, .f32⟩
  | 34 => ⟨S4x20000, .f32⟩
  | 35 => ⟨S4x20000, .f32⟩
  | 36 => ⟨S4x20000, .f32⟩
  | 37 => ⟨S_, .f32⟩
  | 38 => ⟨S4x20000, .f32⟩
  | 39 => ⟨S4x20000, .f32⟩
  | 40 => ⟨S4x20000, .f32⟩
  | 41 => ⟨S4x20000x1, .f32⟩
  | 42 => ⟨S4x20000x1, .f32⟩
  | 43 => ⟨S4x20000x1, .f32⟩
  | 44 => ⟨S4x20000x1, .f32⟩
  | 45 => ⟨S4x20000x4, .f32⟩
  | 46 => ⟨S_, .f32⟩
  | 47 => ⟨S4x20000, .f32⟩
  | 48 => ⟨S4x20000, .i1⟩
  | 49 => ⟨S_, .f32⟩
  | 50 => ⟨S_, .f32⟩
  | 51 => ⟨S20000, .f32⟩
  | 52 => ⟨S4x20000, .f32⟩
  | 53 => ⟨S4x20000, .f32⟩
  | 54 => ⟨S4x300, .f32⟩
  | 55 => ⟨S4x300, .i32⟩
  | 56 => ⟨S_, .i32⟩
  | 57 => ⟨S4x300, .i32⟩
  | 58 => ⟨S4x300, .i1⟩
  | 59 => ⟨S_, .i32⟩
  | 60 => ⟨S4x300, .i32⟩
  | 61 => ⟨S4x300, .i32⟩
  | 62 => ⟨S4x300, .i32⟩
  | 63 => ⟨S4x300x1, .i32⟩
  | 64 => ⟨S4x300x4, .f32⟩
  | 65 => ⟨S_, .i32⟩
  | 66 => ⟨S4x300, .i32⟩
  | 67 => ⟨S4x300, .i1⟩
  | 68 => ⟨S_, .i32⟩
  | 69 => ⟨S4x300, .i32⟩
  | 70 => ⟨S4x300, .i32⟩
  | 71 => ⟨S4x300, .i32⟩
  | 72 => ⟨S4x300x1, .i32⟩
  | 73 => ⟨S4x300, .f32⟩
  | 74 => ⟨S_, .i32⟩
  | 75 => ⟨S4x300, .i32⟩
  | 76 => ⟨S4x300, .i1⟩
  | 77 => ⟨S_, .i32⟩
  | 78 => ⟨S4x300, .i32⟩
  | 79 => ⟨S4x300, .i32⟩
  | 80 => ⟨S4x300, .i32⟩
  | 81 => ⟨S4x300x1, .i32⟩
  | 82 => ⟨S4x300, .i32⟩
  | 83 => ⟨S_, .f32⟩
  | 84 => ⟨S4x300, .f32⟩
  | 85 => ⟨S4x300, .i1⟩
  | 86 => ⟨S4x300, .f32⟩
  | 87 => ⟨S_, .f32⟩
  | 88 => ⟨S4x300, .f32⟩
  | 89 => ⟨S4x300, .f32⟩
  | 90 => ⟨S4x300x1, .f32⟩
  | 91 => ⟨S4x300x4, .f32⟩
  | 92 => ⟨S4x300x4, .f32⟩
  | 93 => ⟨S4x300x1, .f32⟩
  | 94 => ⟨S4x300, .f32⟩
  | 95 => ⟨S4x300x1, .f32⟩
  | 96 => ⟨S4x300, .f32⟩
  | 97 => ⟨S4x300, .f32⟩
  | 98 => ⟨S4x300x1, .f32⟩
  | 99 => ⟨S4x300, .f32⟩
  | 100 => ⟨S4x300x1, .f32⟩
  | 101 => ⟨S4x300, .f32⟩
  | 102 => ⟨S4x300, .f32⟩
  | 103 => ⟨S4x300, .f32⟩
  | 104 => ⟨S4x300x1, .f32⟩
  | 105 => ⟨S4x300, .f32⟩
  | 106 => ⟨S4x300x1, .f32⟩
  | 107 => ⟨S4x300, .f32⟩
  | 108 => ⟨S4x300, .f32⟩
  | 109 => ⟨S4x300x1, .f32⟩
  | 110 => ⟨S4x300, .f32⟩
  | 111 => ⟨S4x300x1, .f32⟩
  | 112 => ⟨S4x300, .f32⟩
  | 113 => ⟨S4x300, .f32⟩
  | 114 => ⟨S4x300, .f32⟩
  | 115 => ⟨S4x300x2, .f32⟩
  | 116 => ⟨S4x300x1x2, .f32⟩
  | 117 => ⟨S4x300x2, .f32⟩
  | 118 => ⟨S4x1x300x2, .f32⟩
  | 119 => ⟨S4x300x300x2, .f32⟩
  | 120 => ⟨S4x300x300x2, .f32⟩
  | 121 => ⟨S4x300x300x2, .f32⟩
  | 122 => ⟨S4x300x2, .f32⟩
  | 123 => ⟨S4x300x1x2, .f32⟩
  | 124 => ⟨S4x300x2, .f32⟩
  | 125 => ⟨S4x1x300x2, .f32⟩
  | 126 => ⟨S4x300x300x2, .f32⟩
  | 127 => ⟨S4x300x300x2, .f32⟩
  | _ => ⟨S4x20000x14, .f32⟩

abbrev hbmTy0_1 (i : Nat) : BufTy := match i % 128 with
  | 0 => ⟨S4x300x300x2, .f32⟩
  | 1 => ⟨S4x300x300x2, .f32⟩
  | 2 => ⟨S_, .f32⟩
  | 3 => ⟨S_, .f32⟩
  | 4 => ⟨S4x300x300x2, .f32⟩
  | 5 => ⟨S4x300x300x2, .f32⟩
  | 6 => ⟨S4x300x300x1, .f32⟩
  | 7 => ⟨S4x300x300, .f32⟩
  | 8 => ⟨S4x300x300x1, .f32⟩
  | 9 => ⟨S4x300x300, .f32⟩
  | 10 => ⟨S4x300x300, .f32⟩
  | 11 => ⟨S4x300x1, .f32⟩
  | 12 => ⟨S4x1x300, .f32⟩
  | 13 => ⟨S4x300x300, .f32⟩
  | 14 => ⟨S4x300x300, .f32⟩
  | 15 => ⟨S4x300x300, .f32⟩
  | 16 => ⟨S4x300x300, .f32⟩
  | 17 => ⟨S_, .f32⟩
  | 18 => ⟨S4x300x300, .f32⟩
  | 19 => ⟨S4x300x300, .f32⟩
  | 20 => ⟨S4x300x300, .f32⟩
  | 21 => ⟨S4x300x1, .f32⟩
  | 22 => ⟨S4x300, .f32⟩
  | 23 => ⟨S4x300x1, .f32⟩
  | 24 => ⟨S4x300x6, .f32⟩
  | 25 => ⟨S300, .i32⟩
  | 26 => ⟨S_, .i32⟩
  | 27 => ⟨S_, .i32⟩
  | 28 => ⟨S4x300x300, .f32⟩
  | 29 => ⟨S300, .i32⟩
  | 30 => ⟨S_, .i32⟩
  | 31 => ⟨S_, .i32⟩
  | 32 => ⟨S4x300, .i1⟩
  | 33 => ⟨S_, .i32⟩
  | 34 => ⟨S_, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S4x1x300, .f32⟩
  | 46 => ⟨S4x300, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S4x1, .i1⟩
  | 55 => ⟨S_, .f32⟩
  | 56 => ⟨S4x300, .f32⟩
  | 57 => ⟨S4x300, .i1⟩
  | 58 => ⟨S4x300, .i1⟩
  | 59 => ⟨S4x300, .i1⟩
  | 60 => ⟨S_, .i32⟩
  | 61 => ⟨S300, .i32⟩
  | 62 => ⟨S300, .i1⟩
  | 63 => ⟨S1x300, .i1⟩
  | 64 => ⟨S4x300, .i1⟩
  | 65 => ⟨S4x300, .i1⟩
  | 66 => ⟨S4x300, .i1⟩
  | 67 => ⟨S4x300, .i1⟩
  | 68 => ⟨S_, .i32⟩
  | 69 => ⟨S_, .i32⟩
  | 70 => ⟨S4x300, .i32⟩
  | 71 => ⟨S_, .i32⟩
  | 72 => ⟨S_, .i32⟩
  | 73 => ⟨S4x300, .i32⟩
  | 74 => ⟨S_, .i32⟩
  | 75 => ⟨S4x300, .i32⟩
  | 76 => ⟨S4x300, .i32⟩
  | 77 => ⟨S_, .i32⟩
  | 78 => ⟨S4x300, .i32⟩
  | 79 => ⟨S4x300, .i1⟩
  | 80 => ⟨S4x300, .i1⟩
  | 81 => ⟨S_, .f32⟩
  | 82 => ⟨S4x20x6, .f32⟩
  | 83 => ⟨S4, .i32⟩
  | 84 => ⟨S4x1, .i32⟩
  | 85 => ⟨S_, .i32⟩
  | 86 => ⟨S_, .i32⟩
  | 87 => ⟨S4x300, .i32⟩
  | 88 => ⟨S4x300, .i32⟩
  | 89 => ⟨S4x300x1, .i1⟩
  | 90 => ⟨S_, .f32⟩
  | 91 => ⟨S_, .f32⟩
  | 92 => ⟨S4x300x6, .i1⟩
  | 93 => ⟨S4x300x6, .f32⟩
  | 94 => ⟨S4x300x6, .f32⟩
  | 95 => ⟨S_, .i32⟩
  | 96 => ⟨S4x1, .i32⟩
  | 97 => ⟨S4x1, .i1⟩
  | 98 => ⟨S_, .i32⟩
  | 99 => ⟨S4x1, .i32⟩
  | 100 => ⟨S4x1, .i32⟩
  | 101 => ⟨S4x1, .i32⟩
  | 102 => ⟨S_, .i32⟩
  | 103 => ⟨S4x300, .i32⟩
  | 104 => ⟨S4x300, .i1⟩
  | 105 => ⟨S_, .i32⟩
  | 106 => ⟨S4x300, .i32⟩
  | 107 => ⟨S4x300, .i32⟩
  | 108 => ⟨S4x300, .i32⟩
  | 109 => ⟨S4x300, .i32⟩
  | 110 => ⟨S4x300x1, .i32⟩
  | 111 => ⟨S4x300x1, .i32⟩
  | 112 => ⟨S4x300x2, .i32⟩
  | 113 => ⟨S4x20x6, .f32⟩
  | 114 => ⟨S4x20x1, .f32⟩
  | 115 => ⟨S4x20, .f32⟩
  | 116 => ⟨S4x20, .i32⟩
  | 117 => ⟨S4x20x1, .f32⟩
  | 118 => ⟨S_, .i32⟩
  | 119 => ⟨S4x20, .i32⟩
  | 120 => ⟨S4x20, .i1⟩
  | 121 => ⟨S_, .i32⟩
  | 122 => ⟨S4x20, .i32⟩
  | 123 => ⟨S4x20, .i32⟩
  | 124 => ⟨S4x20, .i32⟩
  | 125 => ⟨S4x20x1, .i32⟩
  | 126 => ⟨S4x20x3, .f32⟩
  | 127 => ⟨S4x20x3, .f32⟩
  | _ => ⟨S4x20000x14, .f32⟩

abbrev hbmTy0_2 (i : Nat) : BufTy := match i % 128 with
  | 0 => ⟨S4x20x3, .f32⟩
  | 1 => ⟨S_, .i32⟩
  | 2 => ⟨S4x20, .i32⟩
  | 3 => ⟨S4x20, .i1⟩
  | 4 => ⟨S_, .i32⟩
  | 5 => ⟨S4x20, .i32⟩
  | 6 => ⟨S4x20, .i32⟩
  | 7 => ⟨S4x20, .i32⟩
  | 8 => ⟨S4x20x1, .i32⟩
  | 9 => ⟨S4x20x3, .f32⟩
  | 10 => ⟨S4x20x3, .f32⟩
  | 11 => ⟨S4x20x3, .f32⟩
  | 12 => ⟨S4x20x4, .f32⟩
  | 13 => ⟨S_, .f32⟩
  | 14 => ⟨S4x20x4, .f32⟩
  | 15 => ⟨S4x20x4, .f32⟩
  | 16 => ⟨S4x20x11, .f32⟩
  | _ => ⟨S4x20000x14, .f32⟩

abbrev hbmTy (i : Nat) : BufTy := match i / 128 with
  | 0 => hbmTy0_0 i
  | 1 => hbmTy0_1 i
  | 2 => hbmTy0_2 i
  | _ => ⟨S4x20000x14, .f32⟩

abbrev bufTy : (tb : Table) → Fin (tcTables nBuf tb) → BufTy
  | .hbm, ⟨i, _⟩ => hbmTy i
  | _, _ => ⟨S4x20000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v36 : Ref sig .tc := ⟨.hbm, 53, rfl⟩
abbrev main_values : Ref sig .tc := ⟨.hbm, 54, rfl⟩
abbrev main_indices : Ref sig .tc := ⟨.hbm, 55, rfl⟩
abbrev main_c : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_15 : Ref sig .tc := ⟨.hbm, 130, rfl⟩
abbrev main_call2_v0 : Ref sig .tc := ⟨.hbm, 131, rfl⟩
abbrev main_call2_v1 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_16 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_c_17 : Ref sig .tc := ⟨.hbm, 154, rfl⟩
abbrev main_c_18 : Ref sig .tc := ⟨.hbm, 155, rfl⟩
abbrev main_v123_0 : Ref sig .tc := ⟨.hbm, 156, rfl⟩
abbrev main_v123_1 : Ref sig .tc := ⟨.hbm, 157, rfl⟩
abbrev main_v123_2 : Ref sig .tc := ⟨.hbm, 158, rfl⟩
abbrev main_v123_3 : Ref sig .tc := ⟨.hbm, 159, rfl⟩
abbrev main_v123_4 : Ref sig .tc := ⟨.hbm, 160, rfl⟩
abbrev main_while0c_c_37 : Ref sig .tc := ⟨.hbm, 161, rfl⟩
abbrev main_while0c_v177 : Ref sig .tc := ⟨.hbm, 162, rfl⟩
abbrev main_while0b_c_37 : Ref sig .tc := ⟨.hbm, 163, rfl⟩
abbrev main_while0b_v177 : Ref sig .tc := ⟨.hbm, 164, rfl⟩
abbrev main_while0b_call3_c : Ref sig .tc := ⟨.hbm, 165, rfl⟩
abbrev main_while0b_call3_v0 : Ref sig .tc := ⟨.hbm, 166, rfl⟩
abbrev main_while0b_call3_v1 : Ref sig .tc := ⟨.hbm, 167, rfl⟩
abbrev main_while0b_call3_c_0 : Ref sig .tc := ⟨.hbm, 168, rfl⟩
abbrev main_while0b_call3_v2 : Ref sig .tc := ⟨.hbm, 169, rfl⟩
abbrev main_while0b_call3_v3 : Ref sig .tc := ⟨.hbm, 170, rfl⟩
abbrev main_while0b_call3_c_1 : Ref sig .tc := ⟨.hbm, 171, rfl⟩
abbrev main_while0b_call3_c_2 : Ref sig .tc := ⟨.hbm, 172, rfl⟩
abbrev main_while0b_call3_v4 : Ref sig .tc := ⟨.hbm, 173, rfl⟩
abbrev main_while0b_v178 : Ref sig .tc := ⟨.hbm, 174, rfl⟩
abbrev main_while0b_call4_c : Ref sig .tc := ⟨.hbm, 175, rfl⟩
abbrev main_while0b_call4_v0 : Ref sig .tc := ⟨.hbm, 176, rfl⟩
abbrev main_while0b_call4_v1 : Ref sig .tc := ⟨.hbm, 177, rfl⟩
abbrev main_while0b_call4_c_0 : Ref sig .tc := ⟨.hbm, 178, rfl⟩
abbrev main_while0b_call4_v2 : Ref sig .tc := ⟨.hbm, 179, rfl⟩
abbrev main_while0b_call4_v3 : Ref sig .tc := ⟨.hbm, 180, rfl⟩
abbrev main_while0b_call4_c_1 : Ref sig .tc := ⟨.hbm, 181, rfl⟩
abbrev main_while0b_v179 : Ref sig .tc := ⟨.hbm, 182, rfl⟩
abbrev main_while0b_cst_38 : Ref sig .tc := ⟨.hbm, 183, rfl⟩
abbrev main_while0b_v180 : Ref sig .tc := ⟨.hbm, 184, rfl⟩
abbrev main_while0b_v181 : Ref sig .tc := ⟨.hbm, 185, rfl⟩
abbrev main_while0b_v182 : Ref sig .tc := ⟨.hbm, 186, rfl⟩
abbrev main_while0b_v183 : Ref sig .tc := ⟨.hbm, 187, rfl⟩
abbrev main_while0b_v184 : Ref sig .tc := ⟨.hbm, 188, rfl⟩
abbrev main_while0b_v185 : Ref sig .tc := ⟨.hbm, 189, rfl⟩
abbrev main_while0b_v186 : Ref sig .tc := ⟨.hbm, 190, rfl⟩
abbrev main_while0b_v187 : Ref sig .tc := ⟨.hbm, 191, rfl⟩
abbrev main_while0b_v188 : Ref sig .tc := ⟨.hbm, 192, rfl⟩
abbrev main_while0b_v189 : Ref sig .tc := ⟨.hbm, 193, rfl⟩
abbrev main_while0b_v190 : Ref sig .tc := ⟨.hbm, 194, rfl⟩
abbrev main_while0b_v191 : Ref sig .tc := ⟨.hbm, 195, rfl⟩
abbrev main_while0b_c_39 : Ref sig .tc := ⟨.hbm, 196, rfl⟩
abbrev main_while0b_v192 : Ref sig .tc := ⟨.hbm, 197, rfl⟩
abbrev main_call5_v0 : Ref sig .tc := ⟨.hbm, 198, rfl⟩
abbrev main_call5_call0_c : Ref sig .tc := ⟨.hbm, 199, rfl⟩
abbrev main_call5_call0_v0 : Ref sig .tc := ⟨.hbm, 200, rfl⟩
abbrev main_v124 : Ref sig .tc := ⟨.hbm, 201, rfl⟩
abbrev main_c_19 : Ref sig .tc := ⟨.hbm, 202, rfl⟩
abbrev main_v125 : Ref sig .tc := ⟨.hbm, 203, rfl⟩
abbrev main_v126 : Ref sig .tc := ⟨.hbm, 204, rfl⟩
abbrev main_c_20 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_cst_21 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_c_22 : Ref sig .tc := ⟨.hbm, 213, rfl⟩
abbrev main_call6_v0 : Ref sig .tc := ⟨.hbm, 214, rfl⟩
abbrev main_call6_v1 : Ref sig .tc := ⟨.hbm, 215, rfl⟩
abbrev main_v133 : Ref sig .tc := ⟨.hbm, 216, rfl⟩
abbrev main_v134 : Ref sig .tc := ⟨.hbm, 217, rfl⟩
abbrev main_cst_23 : Ref sig .tc := ⟨.hbm, 218, rfl⟩
abbrev main_call7_v0 : Ref sig .tc := ⟨.hbm, 219, rfl⟩
abbrev main_call7_v1 : Ref sig .tc := ⟨.hbm, 220, rfl⟩
abbrev main_call7_v2 : Ref sig .tc := ⟨.hbm, 221, rfl⟩
abbrev main_v135 : Ref sig .tc := ⟨.hbm, 222, rfl⟩
abbrev main_c_24 : Ref sig .tc := ⟨.hbm, 223, rfl⟩
abbrev main_v136 : Ref sig .tc := ⟨.hbm, 224, rfl⟩
abbrev main_v137 : Ref sig .tc := ⟨.hbm, 225, rfl⟩
abbrev main_c_25 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_c_26 : Ref sig .tc := ⟨.hbm, 230, rfl⟩
abbrev main_v141 : Ref sig .tc := ⟨.hbm, 231, rfl⟩
abbrev main_v142 : Ref sig .tc := ⟨.hbm, 232, rfl⟩
abbrev main_c_27 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_c_28 : Ref sig .tc := ⟨.hbm, 246, rfl⟩
abbrev main_v155 : Ref sig .tc := ⟨.hbm, 247, rfl⟩
abbrev main_v156 : Ref sig .tc := ⟨.hbm, 248, rfl⟩
abbrev main_c_29 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_c_30 : Ref sig .tc := ⟨.hbm, 257, rfl⟩
abbrev main_v164 : Ref sig .tc := ⟨.hbm, 258, rfl⟩
abbrev main_v165 : Ref sig .tc := ⟨.hbm, 259, rfl⟩
abbrev main_c_31 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_cst_32 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩

abbrev nD : Nat := 1
abbrev τ : Topo := Topo.v7x

variable {F : FTy → Type} [FloatOps F]

abbrev main_while0_count : Scf.Loop 32 := ⟨0#32, 300#32, 1#32⟩
-- ==== Proof.KernelFrame.lean ====
/- The frame claim of the kernel as printed: it terminates, leaves its argument as it found it and
   every counter at zero. Nothing of the output's contents is needed for it, so nothing is named. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Claim
public import Idealize.ShloMosaic.Init

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the selection loop carries: the four images' scores, then their picked rows, columns and confidences. -/
abbrev Sel (F : FTy → Type) : Type := FVec F S160x128 .f32 × FVec F S160x128 .f32 × FVec F S160x128 .f32 × FVec F S160x128 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32

set_option warn.classDefReducibility false in
/-- The selection loop touches no buffer, so a trip keeps whatever is known before it: nothing need be said. -/
@[sl_loop] def selLoop (c : Dev nD) (arg0 : Memref sig .tc .vmem S4x14x160x128 .f32) (harg0 : arg0.IsWhole)
    (arg1 : Memref sig .tc .vmem S4x20x11 .f32) (harg1 : arg1.IsWhole)
    (arg2 : Memref sig .tc .vmem S4x384x384 .f32) (harg2 : arg2.IsWhole)
    (v1 : FVec F S1x384 .f32) (v8 : FVec F S160x128 .f32) (v79 : FVec F S160x128 .f32) (v83 : FVec F S160x128 .f32) (v86 : FVec F S160x128 .f32) (v89 : FVec F S160x128 .f32) (v92 : FVec F S160x128 .f32) (v96 : FVec F S160x128 .f32) (v184 : FVec F S160x128 .f32) (v272 : FVec F S160x128 .f32) (v276 : FVec F S160x128 .f32) (v278 : FVec F S160x128 .f32) (v280 : FVec F S160x128 .f32) (v282 : FVec F S160x128 .f32) (v344 : FVec F S160x128 .f32)
    (init : Sel F) :
    LoopInvTy_k0_t1 (F := F) Unit ℕ (UR sig nD τ) ℕ Variants.none c none Set.univ arg0 harg0 arg1 harg1 arg2 harg2
      v1 v8 v79 v83 v86 v89 v92 v96 v184 v272 v276 v278 v280 v282 v344 init where
  inv := fun _ _ => iprop(emp)
  step := fun k acc => by
    unfold k0_t1_body
    iintro -
    sl_exec
    sl_step
    itrivial

/-- The body on whole staging buffers, the output's and the scratch's handed back at some contents. -/
theorem body_runs (c : Dev nD) (arg0 : Memref sig .tc .vmem S4x14x160x128 .f32) (harg0 : arg0.IsWhole)
    (arg1 : Memref sig .tc .vmem S4x20x11 .f32) (harg1 : arg1.IsWhole)
    (arg2 : Memref sig .tc .vmem S4x384x384 .f32) (harg2 : arg2.IsWhole) (x0 : Vec F S4x14x160x128 .f32)
    (K : PUnit → sProp 𝕄) :
    iprop(owns (c : Thread nD τ) arg0 fullShare x0 ∗ (∃ d, owns (c : Thread nD τ) arg1 fullShare d)
        ∗ (∃ d, owns (c : Thread nD τ) arg2 fullShare d)
        ∗ (iprop(owns (c : Thread nD τ) arg0 fullShare x0 ∗ (∃ d, owns (c : Thread nD τ) arg1 fullShare d)
            ∗ (∃ d, owns (c : Thread nD τ) arg2 fullShare d)) -∗ K ⟨⟩))
      ⊢ wp frame (wpE (defs₀ (F := F)) Variants.none c none) Set.univ (cc0__body arg0 harg0 arg1 harg1 arg2 harg2) K := by
  simp only [cc0__body_eq_skeleton]; unfold cc0__body_skel
  unfold owns
  iintro ⟨⟨%f0, %hf0, H0⟩, ⟨%d1, %f1, -, H1⟩, ⟨%ds0, %fs0, -, HS0⟩, Hk⟩
  obtain rfl := harg0.eq_unread hf0
  sl_exec
  sl_step
  iapply Hk
  isplitl [H0]
  · iexists _; isplitr; · ipureintro; exact harg0.read_unread _
    iexact H0
  isplitl [H1]
  · iexists _, _; isplitr; swap; · iexact H1
    ipureintro; rfl
  iexists _, _; isplitr; swap; · iexact HS0
  ipureintro; rfl

variable (m : (ℓ : Loc nD τ sig) → Buf (Elt F) ℓ) (ρ : Dev nD → PrngReg)

/-- The region's invariant: the scratch at some contents, beside the generator register. -/
theorem inv_eq (c : Dev nD) : (Pipeline.ΦA spec0 c : sProp 𝕄)
    = iprop(iprop((∃ d, owns (c : Thread nD τ) (Memref.whole cc0_scratch0 : Memref sig .tc .vmem S4x384x384 .f32) fullShare d))
      ∗ (∃ r, prngReg c r)) := by
  unfold Pipeline.ΦA; rw [scopedRest0_eq]; simp only [owns_whole]; try rfl

/-- The output window's contents are not named. -/
def forgets : Fin 2 → Bool := fun w => w.val == 1

/-- The launch's proof data: the input's block stays, the output's is left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]

theorem before_in (c : Dev nD) (t : Fin cfg0.N) (d) : (dats m 0 c).before 0 t d = iblk m c 0 t :=
  before0_0_of m (dats m 0 c) (arrays_eq m c 0) (after_in m c) t d

/-- The body at a grid point, from what the launch hands it to what it hands back. -/
theorem point_runs (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare d))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ (∃ d, owns (c : Thread nD τ) (st0_1 t) fullShare d))) := by
  unfold bodyAt0
  simp only [before_in]
  rw [show (dats m 0 c).Φ t.succ = (dats m 0 c).Φ t.castSucc from rfl,
    show (dats m 0 c).owesAt () t.succ = (dats m 0 c).owesAt () t.castSucc from rfl, after_in]
  rw [show (dats m 0 c).Φ t.castSucc = Pipeline.ΦA spec0 c from rfl, inv_eq]
  iintro ⟨⟨Hs, Hg⟩, Ho, ⟨%d0, H0⟩, ⟨%d1, H1⟩⟩
  iapply (body_runs c _ _ _ _ _ _ (iblk m c 0 t) _)
  isplitl [H0]; · iexact H0
  isplitl [H1]; · iexists _; iexact H1
  isplitl [Hs]; · iexact Hs
  iintro ⟨H0, H1, Hs⟩
  isplitl [Hs Hg]
  · isplitl [Hs]
    · iexact Hs
    iexact Hg
  isplitl [Ho]; · iexact Ho
  isplitl [H0]; · iexact H0
  iexact H1

theorem point_body (t : Fin cfg0.N) :
    defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ forgets := fun t => by
  rw [bigSep_W0, bigSep_W0, point_body]
  exact triple_restated (point_runs m c t) rfl .rfl fun _ => .rfl

set_option backward.isDefEq.respectTransparency.types false in
theorem launched : θ_run defs (onTc (τ := τ) (main (F := F))) (s₀ m ρ) (fun r =>
    (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := arrays_eq m) (hΦ := fun _ _ => rfl)

/-- The frame claim, at any reading of the floats. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    ((h.1 c).2 main_arg0 (Pipeline.mem_restRefs_of main_arg0 (by decide) (by decide))).trans (V_main_arg0 m c), h.2⟩)
    (launched m ρ)

end Cert.Proof.Kernel

end
-- ==== Proof.Image.lean ====
/- What the kernel's body does with ONE image, as functions of the vectors it holds: the same for the four. -/
module

public import proofs.«01_k».proof.Proof.Gen.KernelIdeal
public import proofs.«01_k».proof.Proof.Gen.KernelIdeal.Skeleton
public import Idealize.ShloMosaic.Init

@[expose] public section

noncomputable section

namespace Cert.Proof.Image

open Cert.KernelIdeal Cert.KernelIdeal.Gen
open Idealize.ShloMosaic Idealize.ShloMosaic.TcCoe

variable {F : FTy → Type} [FloatOps F]

/-- The constant of a bit pattern, at every place of a vector. -/
abbrev splat (s : Shape) (b : BitVec 32) : FVec F s .f32 := broadcast s (Scalar.ofBits .f32 b)

/-- The lanes' numbers, as floats. -/
def lanes : FVec F S1x384 .f32 := sitofp .f32 (iota .tc S1x384 32 [1] iota_S1x384_d1_w32)

/-- A place's number in the image's row-major order, as a float. -/
def places : FVec F S160x128 .f32 :=
  addf (mulf (sitofp .f32 (iota .tc S160x128 32 [0] iota_S160x128_d0_w32)) (splat S160x128 0x43000000#32))
    (sitofp .f32 (iota .tc S160x128 32 [1] iota_S160x128_d1_w32))

theorem plane_slices (i : ℕ) (h : i < 14) : S14x160x128.Slices ![i, 0, 0] S1x160x128 := by
  refine ⟨rfl, fun a => ?_⟩
  fin_cases a
  · show i + 1 ≤ 14; omega
  · show 0 + 160 ≤ 160; omega
  · show 0 + 128 ≤ 128; omega

/-- Field `i` of every anchor. -/
def plane (x : FVec F S14x160x128 .f32) (i : ℕ) (h : i < 14) : FVec F S160x128 .f32 :=
  shapeCast S160x128 (extractStridedSlice S1x160x128 ![i, 0, 0] x (plane_slices i h)) shapeCasts_S1x160x128_S160x128

/-- The confidence in class `k`. -/
def conf (x : FVec F S14x160x128 .f32) (k : ℕ) (h : 5 + k < 14) : FVec F S160x128 .f32 :=
  mulf (plane x 4 (by omega)) (plane x (5 + k) h)

/-- The best confidence so far and its class, one class further; `b` is `k` as a float's bits. -/
def better (x : FVec F S14x160x128 .f32) (k : ℕ) (h : 5 + k < 14) (b : BitVec 32)
    (s : FVec F S160x128 .f32 × FVec F S160x128 .f32) : FVec F S160x128 .f32 × FVec F S160x128 .f32 :=
  (select (cmpf .ogt (conf x k h) s.1) (conf x k h) s.1,
    select (cmpf .ogt (conf x k h) s.1) (splat S160x128 b) s.2)

/-- The best confidence and its class. -/
def best (x : FVec F S14x160x128 .f32) : FVec F S160x128 .f32 × FVec F S160x128 .f32 :=
  better x 8 (by decide) 0x41000000#32 <| better x 7 (by decide) 0x40E00000#32 <|
  better x 6 (by decide) 0x40C00000#32 <| better x 5 (by decide) 0x40A00000#32 <|
  better x 4 (by decide) 0x40800000#32 <| better x 3 (by decide) 0x40400000#32 <|
  better x 2 (by decide) 0x40000000#32 <| better x 1 (by decide) 0x3F800000#32
    (conf x 0 (by decide), splat S160x128 0x00000000#32)

/-- The score the selection ranks by. -/
def score (x : FVec F S14x160x128 .f32) : FVec F S160x128 .f32 :=
  select (cmpf .ogt (best x).1 (splat S160x128 0x3E800000#32)) (best x).1 (splat S160x128 0xBF800000#32)

/-- A box's low edge along an axis: fields `i` (the centre) and `j` (the extent). -/
def low (x : FVec F S14x160x128 .f32) (i j : ℕ) (hi : i < 14) (hj : j < 14) : FVec F S160x128 .f32 :=
  subf (plane x i hi) (mulf (plane x j hj) (splat S160x128 0x3F000000#32))

/-- A box's high edge along an axis. -/
def high (x : FVec F S14x160x128 .f32) (i j : ℕ) (hi : i < 14) (hj : j < 14) : FVec F S160x128 .f32 :=
  addf (plane x i hi) (mulf (plane x j hj) (splat S160x128 0x3F000000#32))

/-! ## The selection -/

/-- What the selection carries for an image: the scores left, the picks' rows, columns and scores. -/
abbrev Picks (F : FTy → Type) : Type :=
  FVec F S160x128 .f32 × FVec F S1x384 .f32 × FVec F S1x384 .f32 × FVec F S1x384 .f32

/-- The greatest score left. -/
def top (s : FVec F S160x128 .f32) : F .f32 :=
  extractAt ![0, 0, 0] (shapeCast S1x1x1 (multiReduction .maximumf [1, 2] S1
    (shapeCast S1x160x128 s shapeCasts_S160x128_S1x160x128) 0xFF800000#32 reduces_S1x160x128_S1 (.inl rfl) rfl)
    shapeCasts_S1_S1x1x1) inpos_S1x1x1_p0_0_0

/-- The first place that holds it. -/
def pick (q s : FVec F S160x128 .f32) : F .f32 :=
  extractAt ![0, 0, 0] (shapeCast S1x1x1 (multiReduction .minimumf [1, 2] S1
    (shapeCast S1x160x128 (select (cmpf .oeq s (broadcast S160x128 (top s))) q (splat S160x128 0x4BE4E1C0#32))
      shapeCasts_S160x128_S1x160x128) 0x7F800000#32 reduces_S1x160x128_S1 (.inl rfl) rfl)
    shapeCasts_S1_S1x1x1) inpos_S1x1x1_p0_0_0

/-- A pick's row. -/
def pickRow (q s : FVec F S160x128 .f32) : F .f32 := Scalar.floor (Scalar.mulf (pick q s) (Scalar.ofBits .f32 0x3C000000#32))

/-- A pick's column. -/
def pickCol (q s : FVec F S160x128 .f32) : F .f32 :=
  Scalar.subf (pick q s) (Scalar.mulf (pickRow q s) (Scalar.ofBits .f32 0x43000000#32))

/-- Is the lane the trip's own? -/
def atTrip (l : FVec F S1x384 .f32) (k : ℕ) : IVec S1x384 1 :=
  cmpf .oeq l (broadcast S1x384 (Scalar.sitofp .f32 (Scf.iv 0#32 1#32 k)))

/-- One trip: the greatest score left is taken out and written down at the trip's lane. -/
def take (l : FVec F S1x384 .f32) (q : FVec F S160x128 .f32) (k : ℕ) (s : Picks F) : Picks F :=
  (select (cmpf .oeq q (broadcast S160x128 (pick q s.1))) (splat S160x128 0xC0000000#32) s.1,
    select (atTrip l k) (broadcast S1x384 (pickRow q s.1)) s.2.1,
    select (atTrip l k) (broadcast S1x384 (pickCol q s.1)) s.2.2.1,
    select (atTrip l k) (broadcast S1x384 (top s.1)) s.2.2.2)

/-- Before trip `k`, from the image's scores; `l` numbers the lanes and `q` the places. -/
def picks (l : FVec F S1x384 .f32) (q s : FVec F S160x128 .f32) : ℕ → Picks F
  | 0 => (s, splat S1x384 0x00000000#32, splat S1x384 0x00000000#32, splat S1x384 0xC0000000#32)
  | k + 1 => take l q k (picks l q s k)

/-! ## Reading the picked anchors: a picked row by a product with a one-hot matrix, then the column -/

/-- The one-hot matrix of the picks' rows. -/
def rowsHot (r : FVec F S1x384 .f32) : FVec F S160x384 .f32 :=
  sitofp .f32 (extui 32 (cmpf .oeq (sitofp (F := F) .f32 (iota .tc S160x384 32 [0] iota_S160x384_d0_w32))
    (broadcastTo S160x384 r broadcasts_S1x384_S160x384)) natLt_1_32)

/-- The one-hot matrix of the picks' columns. -/
def colsHot (c : FVec F S1x384 .f32) : FVec F S128x384 .f32 :=
  sitofp .f32 (extui 32 (cmpf .oeq (sitofp (F := F) .f32 (iota .tc S128x384 32 [0] iota_S128x384_d0_w32))
    (broadcastTo S128x384 c broadcasts_S1x384_S128x384)) natLt_1_32)

/-- The five fields side by side, their picked rows. -/
def fields (a b c d e : FVec F S160x128 .f32) (r : FVec F S1x384 .f32) : FVec F S640x384 .f32 :=
  matmul dot_S160x640_S160x384_S640x384_0_0_1_1_n_n (some .fp32)
    (concatenate S160x640 1 [⟨S160x128, a⟩, ⟨S160x128, b⟩, ⟨S160x128, c⟩, ⟨S160x128, d⟩, ⟨S160x128, e⟩]
      concatenates_S160x128_S160x128_S160x128_S160x128_S160x128_S160x640_d1) (rowsHot r) (constant S640x384 .f32 0x00000000#32)

theorem field_slices (o : ℕ) (h : o + 128 ≤ 640) : S640x384.Slices ![o, 0] S128x384 := by
  refine ⟨rfl, fun a => ?_⟩
  fin_cases a
  · show o + 128 ≤ 640; exact h
  · show 0 + 384 ≤ 384; omega

/-- The field that begins at row `o` of the five, at each pick. -/
def field (g : FVec F S640x384 .f32) (c : FVec F S1x384 .f32) (o : ℕ) (h : o + 128 ≤ 640) : FVec F S1x384 .f32 :=
  shapeCast S1x384 (multiReduction .add [0] S384 (mulf (extractStridedSlice S128x384 ![o, 0] g (field_slices o h)) (colsHot c))
    0x00000000#32 reduces_S128x384_S384 (.inl rfl) rfl) shapeCasts_S384_S1x384

/-- What the kernel holds of the picks: four corners, the class, the score. -/
structure Cand (F : FTy → Type) where
  x1 : FVec F S1x384 .f32
  y1 : FVec F S1x384 .f32
  x2 : FVec F S1x384 .f32
  y2 : FVec F S1x384 .f32
  cls : FVec F S1x384 .f32
  sc : FVec F S1x384 .f32

/-- The picks of the five fields `a … e`. -/
def gathered (a b c d e : FVec F S160x128 .f32) (p : Picks F) : Cand F :=
  ⟨field (fields a b c d e p.2.1) p.2.2.1 0 (by decide), field (fields a b c d e p.2.1) p.2.2.1 128 (by decide),
    field (fields a b c d e p.2.1) p.2.2.1 256 (by decide), field (fields a b c d e p.2.1) p.2.2.1 384 (by decide),
    field (fields a b c d e p.2.1) p.2.2.1 512 (by decide), p.2.2.2⟩

/-- The picks of an image. -/
def cand (x : FVec F S14x160x128 .f32) (p : Picks F) : Cand F :=
  gathered (low x 0 2 (by decide) (by decide)) (low x 1 3 (by decide) (by decide))
    (high x 0 2 (by decide) (by decide)) (high x 1 3 (by decide) (by decide)) (best x).2 p

/-! ## The overlaps -/

/-- The rows' numbers of a square, as floats. -/
def down : FVec F S384x384 .f32 := sitofp .f32 (iota .tc S384x384 32 [0] iota_S384x384_d0_w32)
/-- The lanes' numbers of a square, as floats. -/
def across : FVec F S384x384 .f32 := sitofp .f32 (iota .tc S384x384 32 [1] iota_S384x384_d1_w32)
/-- The identity matrix. -/
def ident : FVec F S384x384 .f32 := sitofp .f32 (extui 32 (cmpf .oeq (down (F := F)) across) natLt_1_32)
/-- Ones on and above the diagonal. -/
def upper : FVec F S384x384 .f32 := sitofp .f32 (extui 32 (cmpf .ole (down (F := F)) across) natLt_1_32)

/-- A row of lanes stood up, in every lane. -/
def stood (v : FVec F S1x384 .f32) : FVec F S384x384 .f32 :=
  broadcastTo S384x384 (matmul dot_S384x384_S1x384_S384x1_1_1_0_0_n_n (some .fp32) ident v (constant S384x1 .f32 0x00000000#32))
    broadcasts_S384x1_S384x384
/-- A row of lanes, in every row. -/
def laid (v : FVec F S1x384 .f32) : FVec F S384x384 .f32 := broadcastTo S384x384 v broadcasts_S1x384_S384x384

/-- A corner moved by its class. -/
def moved (cls v : FVec F S1x384 .f32) : FVec F S1x384 .f32 := addf v (mulf cls (splat S1x384 0x46000000#32))

/-- The areas of moved boxes. -/
def area (a b c d : FVec F S1x384 .f32) : FVec F S1x384 .f32 := mulf (subf c a) (subf d b)

/-- The intersections of moved boxes. -/
def inter (a b c d : FVec F S1x384 .f32) : FVec F S384x384 .f32 :=
  mulf (maximumf (splat S384x384 0x00000000#32) (subf (minimumf (stood c) (laid c)) (maximumf (stood a) (laid a))))
    (maximumf (splat S384x384 0x00000000#32) (subf (minimumf (stood d) (laid d)) (maximumf (stood b) (laid b))))

/-- The overlap of moved boxes: intersection over union. -/
def overlap (a b c d : FVec F S1x384 .f32) : FVec F S384x384 .f32 :=
  divf (inter a b c d) (addf (subf (addf (stood (area a b c d)) (laid (area a b c d))) (inter a b c d))
    (splat S384x384 0x3089705F#32))

/-- The overlaps of the candidates. -/
def iou (k : Cand F) : FVec F S384x384 .f32 :=
  overlap (moved k.cls k.x1) (moved k.cls k.y1) (moved k.cls k.x2) (moved k.cls k.y2)

/-! ## The suppression, sixteen rows a trip -/

/-- The lanes' numbers over sixteen rows. -/
def lanes16 : FVec F S16x384 .f32 := sitofp .f32 (iota .tc S16x384 32 [1] iota_S16x384_d1_w32)
/-- The rows' own numbers at trip `k`. -/
def rows16 (k : ℕ) : FVec F S16x384 .f32 :=
  addf (sitofp .f32 (iota .tc S16x384 32 [0] iota_S16x384_d0_w32))
    (broadcast S16x384 (Scalar.sitofp .f32 (Scalar.muli (Scf.iv 0#32 1#32 k) 16#32)))
/-- Each row's own lane. -/
def own16 (k : ℕ) : FVec F S16x384 .f32 :=
  sitofp .f32 (extui 32 (cmpf .oeq (lanes16 (F := F)) (rows16 k)) natLt_1_32)
/-- What each row would suppress. -/
def sup16 (k : ℕ) (b : FVec F S1x16x384 .f32) : IVec S16x384 1 :=
  andi (cmpf .ogt (shapeCast S16x384 b shapeCasts_S1x16x384_S16x384) (splat S16x384 0x3EE66666#32))
    (cmpf .ogt (lanes16 (F := F)) (rows16 k))

theorem row_slices (j : ℕ) (h : j < 16) : S16x384.Slices ![j, 0] S1x384 := by
  refine ⟨rfl, fun a => ?_⟩
  fin_cases a
  · show j + 1 ≤ 16; omega
  · show 0 + 384 ≤ 384; omega

/-- Is row `j`'s candidate kept? -/
def kept (k j : ℕ) (h : j < 16) (keep : FVec F S1x384 .f32) : F .f32 :=
  extractAt ![0, 0, 0] (shapeCast S1x1x1 (multiReduction .maximumf [1, 2] S1
    (shapeCast S1x1x384 (mulf (extractStridedSlice S1x384 ![j, 0] (own16 k) (row_slices j h)) keep) shapeCasts_S1x384_S1x1x384)
    0xFF800000#32 reduces_S1x1x384_S1 (.inl rfl) rfl) shapeCasts_S1_S1x1x1) inpos_S1x1x1_p0_0_0

/-- Row `j` of a trip: if its candidate is kept, what it overlaps is dropped. -/
def rowStep (k j : ℕ) (h : j < 16) (b : FVec F S1x16x384 .f32) (keep : FVec F S1x384 .f32) : FVec F S1x384 .f32 :=
  select (andi (extractStridedSlice S1x384 ![j, 0] (sup16 k b) (row_slices j h))
    (broadcast S1x384 (Scalar.cmpf .ogt (kept k j h keep) (Scalar.ofBits .f32 0x00000000#32))))
    (splat S1x384 0x00000000#32) keep

/-- A trip: its sixteen rows, in order. -/
def chunk (k : ℕ) (b : FVec F S1x16x384 .f32) (keep : FVec F S1x384 .f32) : FVec F S1x384 .f32 :=
  rowStep k 15 (by decide) b <| rowStep k 14 (by decide) b <| rowStep k 13 (by decide) b <| rowStep k 12 (by decide) b <|
  rowStep k 11 (by decide) b <| rowStep k 10 (by decide) b <| rowStep k 9 (by decide) b <| rowStep k 8 (by decide) b <|
  rowStep k 7 (by decide) b <| rowStep k 6 (by decide) b <| rowStep k 5 (by decide) b <| rowStep k 4 (by decide) b <|
  rowStep k 3 (by decide) b <| rowStep k 2 (by decide) b <| rowStep k 1 (by decide) b <| rowStep k 0 (by decide) b keep

/-- Which candidates there are. -/
def valid (sc : FVec F S1x384 .f32) : FVec F S1x384 .f32 :=
  sitofp .f32 (extui 32 (cmpf .ogt sc (splat S1x384 0x3E800000#32)) natLt_1_32)

/-- The kept candidates before trip `k`, the trips' blocks given. -/
def keeps (b : ℕ → FVec F S1x16x384 .f32) (init : FVec F S1x384 .f32) : ℕ → FVec F S1x384 .f32
  | 0 => init
  | k + 1 => chunk k (b k) (keeps b init k)

/-! ## The packing -/

/-- The one-hot matrix that sends each kept candidate to its slot. -/
def slots (keep : FVec F S1x384 .f32) : FVec F S20x384 .f32 :=
  sitofp .f32 (extui 32 (andi
    (cmpf .oeq (broadcastTo S20x384 (subf (matmul dot_S1x384_S384x384_S1x384_1_0_0_1_n_n (some .fp32) keep upper
        (constant S1x384 .f32 0x00000000#32)) (splat S1x384 0x3F800000#32)) broadcasts_S1x384_S20x384)
      (sitofp (F := F) .f32 (iota .tc S20x384 32 [0] iota_S20x384_d0_w32)))
    (broadcastTo S20x384 (cmpf .ogt keep (splat S1x384 0x00000000#32)) broadcasts_S1x384_S20x384)) natLt_1_32)

/-- A field of the candidates, sent to the slots. -/
def packed (keep v : FVec F S1x384 .f32) : FVec F S20x1 .f32 :=
  matmul dot_S20x384_S1x384_S20x1_1_1_0_0_n_n (some .fp32) (slots keep) v (constant S20x1 .f32 0x00000000#32)

/-- A slot's colour. -/
def color (cls : FVec F S20x1 .f32) : FVec F S20x1 .f32 := floor (divf cls (splat S20x1 0x40400000#32))
/-- A slot's shape. -/
def form (cls : FVec F S20x1 .f32) : FVec F S20x1 .f32 := subf cls (mulf (splat S20x1 0x40400000#32) (color cls))
/-- The score at one of three lanes, zero at the others. -/
def hot3 (i p : FVec F S20x1 .f32) : FVec F S20x3 .f32 :=
  select (cmpf .oeq (broadcastTo S20x3 i broadcasts_S20x1_S20x3)
      (sitofp (F := F) .f32 (iota .tc S20x3 32 [1] iota_S20x3_d1_w32)))
    (broadcastTo S20x3 (shapeCast S20x1 p shapeCasts_S20x1_S20x1) broadcasts_S20x1_S20x3) (splat S20x3 0x00000000#32)

/-- The image's slots. -/
def out (k : Cand F) (keep : FVec F S1x384 .f32) : FVec F S20x11 .f32 :=
  concatenate S20x11 1 [⟨S20x4, mulf (concatenate S20x4 1 [⟨S20x1, packed keep k.x1⟩, ⟨S20x1, packed keep k.y1⟩,
      ⟨S20x1, packed keep k.x2⟩, ⟨S20x1, packed keep k.y2⟩] concatenates_S20x1_S20x1_S20x1_S20x1_S20x4_d1)
      (splat S20x4 0x3C000000#32)⟩,
    ⟨S20x3, hot3 (color (packed keep k.cls)) (packed keep k.sc)⟩, ⟨S20x3, hot3 (form (packed keep k.cls)) (packed keep k.sc)⟩,
    ⟨S20x1, packed keep k.sc⟩] concatenates_S20x4_S20x3_S20x3_S20x1_S20x11_d1

end Cert.Proof.Image

end
-- ==== Proof.Selection.lean ====
/- The kernel's selection loop, gone through once per trip: each image's carried values are its own. -/
module

public import proofs.«01_k».proof.Proof.Image
public import proofs.«01_k».proof.Proof.Gen.KernelIdeal.Loops
public import proofs.«01_k».proof.Proof.Gen.KernelIdeal.Frame

@[expose] public section

noncomputable section

namespace Cert.Proof.KernelIdeal

open Cert.KernelIdeal Cert.KernelIdeal.Gen Cert.Proof.Image
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop's carried values, in the order the program lists them. -/
abbrev Listed (F : FTy → Type) : Type :=
  FVec F S160x128 .f32 × FVec F S160x128 .f32 × FVec F S160x128 .f32 × FVec F S160x128 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32

/-- The four images' carried values, listed. -/
def listed (a b c d : Picks F) : Listed F :=
  (a.1, b.1, c.1, d.1, a.2.1, b.2.1, c.2.1, d.2.1, a.2.2.1, b.2.2.1, c.2.2.1, d.2.2.1, a.2.2.2, b.2.2.2, c.2.2.2, d.2.2.2)

set_option warn.classDefReducibility false in
/-- Before trip `k` each image's carried values are `picks` of its scores. -/
@[sl_loop] def selLoop (c : Dev nD) (arg0 : Memref sig .tc .vmem S4x14x160x128 .f32) (harg0 : arg0.IsWhole)
    (arg1 : Memref sig .tc .vmem S4x20x11 .f32) (harg1 : arg1.IsWhole)
    (arg2 : Memref sig .tc .vmem S4x384x384 .f32) (harg2 : arg2.IsWhole)
    (v1 : FVec F S1x384 .f32) (v8 : FVec F S160x128 .f32) (v79 : FVec F S160x128 .f32) (v83 : FVec F S160x128 .f32) (v86 : FVec F S160x128 .f32) (v89 : FVec F S160x128 .f32) (v92 : FVec F S160x128 .f32) (v96 : FVec F S160x128 .f32) (v184 : FVec F S160x128 .f32) (v272 : FVec F S160x128 .f32) (v276 : FVec F S160x128 .f32) (v278 : FVec F S160x128 .f32) (v280 : FVec F S160x128 .f32) (v282 : FVec F S160x128 .f32) (v344 : FVec F S160x128 .f32)
    (init : Listed F) :
    LoopInvTy_k0_t1 (F := F) Unit ℕ (UR sig nD τ) ℕ Variants.none c none Set.univ arg0 harg0 arg1 harg1 arg2 harg2
      v1 v8 v79 v83 v86 v89 v92 v96 v184 v272 v276 v278 v280 v282 v344 init where
  inv := fun k acc => iprop(⌜acc = listed (picks v1 v8 init.1 k) (picks v1 v8 init.2.1 k) (picks v1 v8 init.2.2.1 k) (picks v1 v8 init.2.2.2.1 k)⌝)
  step := fun k acc => by
    iintro %h
    subst h
    unfold k0_t1_body
    sl_exec
    sl_step
    ipureintro
    rfl

end Cert.Proof.KernelIdeal

end
-- ==== Proof.Suppression.lean ====
/- The kernel's suppression loop, gone through once per trip: each image's kept candidates are its own. -/
module

public import proofs.«01_k».proof.Proof.Image
public import proofs.«01_k».proof.Proof.Gen.KernelIdeal.Loops

@[expose] public section

noncomputable section

namespace Cert.Proof.KernelIdeal

open Cert.KernelIdeal Cert.KernelIdeal.Gen Cert.Proof.Image
open Idealize.ShloMosaic Idealize.ShloMosaic.TcCoe

variable {F : FTy → Type} [FloatOps F]

/-- Sixteen rows of an overlap array, at trip `k`'s offset; no rows past the last trip. -/
def block (arg2 : Memref sig .tc .vmem S4x384x384 .f32) (X : BufTy.Contents (Elt F) arg2.view.ty)
    (off : Fin k0_t2_loop.trips → Fin 3 → ℕ) (h : ∀ k, ∀ a, off k a + S1x16x384.size a ≤ S4x384x384.size a) (k : ℕ) :
    FVec F S1x16x384 .f32 :=
  if hk : k < k0_t2_loop.trips then
    View.readAt (Elt F) arg2.view (Rect.unit (s := S4x384x384) (off ⟨k, hk⟩) S1x16x384.size (h ⟨k, hk⟩)).toLoadRect X
  else broadcast S1x16x384 (Scalar.ofBits .f32 0x00000000#32)

variable (c : Dev nD) (arg0 : Memref sig .tc .vmem S4x14x160x128 .f32) (harg0 : arg0.IsWhole) (arg1 : Memref sig .tc .vmem S4x20x11 .f32) (harg1 : arg1.IsWhole) (arg2 : Memref sig .tc .vmem S4x384x384 .f32) (harg2 : arg2.IsWhole) (v364_12 : FVec F S1x384 .f32) (v364_13 : FVec F S1x384 .f32) (v364_14 : FVec F S1x384 .f32) (v364_15 : FVec F S1x384 .f32) (v378 : FVec F S384x384 .f32) (v384 : FVec F S20x384 .f32) (v386 : FVec F S20x3 .f32) (v400 : FVec F S1x384 .f32) (v404 : FVec F S1x384 .f32) (v408 : FVec F S1x384 .f32) (v412 : FVec F S1x384 .f32) (v416 : FVec F S1x384 .f32) (v679 : FVec F S1x384 .f32) (X : BufTy.Contents (Elt F) arg2.view.ty)

theorem trip_eq (v380 v382 : FVec F S16x384 .f32) (h0 : v380 = lanes16)
    (h2 : v382 = sitofp .f32 (iota .tc S16x384 32 [0] iota_S16x384_d0_w32)) (k : Fin k0_t2_loop.trips)
    (acc : FVec F S1x384 .f32 × FVec F S1x384 .f32 × FVec F S1x384 .f32 × FVec F S1x384 .f32) :
    tripR_k0_t2 (F := F) Variants.none c none arg0 harg0 arg1 harg1 arg2 harg2 v364_12 v364_13 v364_14 v364_15 v378
      v380 v382 v384 v386 v400 v404 v408 v412 v416 v679 X k acc
      = (chunk k (block arg2 X k0_off1 k0_off1_inb k) acc.1, chunk k (block arg2 X k0_off2 k0_off2_inb k) acc.2.1,
        chunk k (block arg2 X k0_off3 k0_off3_inb k) acc.2.2.1, chunk k (block arg2 X k0_off4 k0_off4_inb k) acc.2.2.2) := by
  subst h0 h2
  unfold block
  simp only [dif_pos k.isLt]
  unfold tripR_k0_t2 trip_k0_t2
  rfl

/-- Before trip `k` each image's kept candidates are `keeps` of its own blocks. -/
theorem state_eq (v380 v382 : FVec F S16x384 .f32) (h0 : v380 = lanes16)
    (h2 : v382 = sitofp .f32 (iota .tc S16x384 32 [0] iota_S16x384_d0_w32))
    (init : FVec F S1x384 .f32 × FVec F S1x384 .f32 × FVec F S1x384 .f32 × FVec F S1x384 .f32) (k : ℕ)
    (hk : k ≤ k0_t2_loop.trips) :
    st_k0_t2 (F := F) Variants.none c none arg0 harg0 arg1 harg1 arg2 harg2 v364_12 v364_13 v364_14 v364_15 v378
      v380 v382 v384 v386 v400 v404 v408 v412 v416 v679 X init k
      = (keeps (block arg2 X k0_off1 k0_off1_inb) init.1 k, keeps (block arg2 X k0_off2 k0_off2_inb) init.2.1 k,
        keeps (block arg2 X k0_off3 k0_off3_inb) init.2.2.1 k, keeps (block arg2 X k0_off4 k0_off4_inb) init.2.2.2 k) := by
  induction k with
  | zero => rfl
  | succ k ih =>
    rw [show k + 1 = (⟨k, hk⟩ : Fin k0_t2_loop.trips).val + 1 from rfl, st_k0_t2_succ,
      trip_eq _ _ _ _ _ _ _ _ _ _ _ _ _ _ _ _ _ _ _ _ _ _ _ h0 h2, ih (by omega)]
    rfl

end Cert.Proof.KernelIdeal

end
-- ==== Proof.IdealRun.lean ====
/- The kernel's body run once: what it leaves in the output's staging buffer. -/
module

public import proofs.«01_k».proof.Proof.Selection
public import proofs.«01_k».proof.Proof.Suppression
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.Proof.KernelIdeal

open Cert.KernelIdeal Cert.KernelIdeal.Gen Cert.Proof.Image
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output's staging buffer, with the run that leaves them. -/
def bodyRun (c : Dev nD) (arg0 : Memref sig .tc .vmem S4x14x160x128 .f32) (harg0 : arg0.IsWhole)
    (arg1 : Memref sig .tc .vmem S4x20x11 .f32) (harg1 : arg1.IsWhole)
    (arg2 : Memref sig .tc .vmem S4x384x384 .f32) (harg2 : arg2.IsWhole) (x0 : Vec F S4x14x160x128 .f32) :
    { L : List (View.Piece (Elt F) S4x20x11 .f32) // ∀ K : PUnit → sProp 𝕄,
      iprop(owns (c : Thread nD τ) arg0 fullShare x0 ∗ (∃ d, owns (c : Thread nD τ) arg1 fullShare d)
        ∗ (∃ d, owns (c : Thread nD τ) arg2 fullShare d)
        ∗ (iprop(owns (c : Thread nD τ) arg0 fullShare x0
            ∗ (∃ f, arg1.view.loc (c : Thread nD τ) ↦[arg1.view.set]{fullShare} arg1.view.writes (Elt F) f L)
            ∗ (∃ d, owns (c : Thread nD τ) arg2 fullShare d)) -∗ K ⟨⟩))
      ⊢ wp frame (wpE (defs₀ (F := F)) Variants.none c none) Set.univ (cc0__body arg0 harg0 arg1 harg1 arg2 harg2) K } := by
  refine ⟨?_, fun K => ?run⟩
  case run =>
    simp only [cc0__body_eq_skeleton]; unfold cc0__body_skel
    unfold owns
    iintro ⟨⟨%f0, %hf0, H0⟩, ⟨%d1, %f1, -, H1⟩, ⟨%ds0, %fs0, -, HS0⟩, Hk⟩
    obtain rfl := harg0.eq_unread hf0
    sl_exec
    sl_step
    iapply Hk
    isplitl [H0]
    · iexists _; isplitr; · ipureintro; exact harg0.read_unread _
      iexact H0
    isplitl [H1]
    · iexists _; iexact H1
    iexists _, _; isplitr; swap; · iexact HS0
    ipureintro; rfl

end Cert.Proof.KernelIdeal

end
-- ==== Proof.Body.lean ====
/- The kernel's body leaves, in each image's place of the output, what `Image` computes of that image. -/
module

public import proofs.«01_k».proof.Proof.IdealRun

@[expose] public section

set_option maxRecDepth 16384

noncomputable section

namespace Cert.Proof.KernelIdeal

open Cert.KernelIdeal Cert.KernelIdeal.Gen Cert.Proof.Image
open Idealize.ShloMosaic Idealize.ShloMosaic.TcCoe

variable {F : FTy → Type} [FloatOps F]

theorem image_inb (b : ℕ) (h : b < 4) (a : Fin 4) : (![b, 0, 0, 0] : Fin 4 → ℕ) a + S1x14x160x128.size a ≤ S4x14x160x128.size a := by
  fin_cases a
  · show b + 1 ≤ 4; omega
  · show 0 + 14 ≤ 14; omega
  · show 0 + 160 ≤ 160; omega
  · show 0 + 128 ≤ 128; omega

theorem square_inb (b : ℕ) (h : b < 4) (a : Fin 3) : (![b, 0, 0] : Fin 3 → ℕ) a + S1x384x384.size a ≤ S4x384x384.size a := by
  fin_cases a
  · show b + 1 ≤ 4; omega
  · show 0 + 384 ≤ 384; omega
  · show 0 + 384 ≤ 384; omega

theorem slots_inb (b : ℕ) (h : b < 4) (a : Fin 3) : (![b, 0, 0] : Fin 3 → ℕ) a + S1x20x11.size a ≤ S4x20x11.size a := by
  fin_cases a
  · show b + 1 ≤ 4; omega
  · show 0 + 20 ≤ 20; omega
  · show 0 + 11 ≤ 11; omega

variable (c : Dev nD) (arg0 : Memref sig .tc .vmem S4x14x160x128 .f32) (harg0 : arg0.IsWhole)
    (arg1 : Memref sig .tc .vmem S4x20x11 .f32) (harg1 : arg1.IsWhole)
    (arg2 : Memref sig .tc .vmem S4x384x384 .f32) (harg2 : arg2.IsWhole) (x0 : Vec F S4x14x160x128 .f32)

/-- Image `b` of the staged four. -/
def image (b : ℕ) (h : b < 4) : FVec F S14x160x128 .f32 :=
  shapeCast S14x160x128 (View.readAt (Elt F) arg0.view
    (Rect.unit (s := S4x14x160x128) ![b, 0, 0, 0] S1x14x160x128.size (image_inb b h)).toLoadRect (harg0.unread x0))
    shapeCasts_S1x14x160x128_S14x160x128

/-- Its candidates. -/
def cands (b : ℕ) (h : b < 4) : Cand F :=
  cand (image arg0 harg0 x0 b h) (picks lanes places (score (image arg0 harg0 x0 b h))
    (Scf.trips k0_t1_loop.lb k0_t1_loop.ub k0_t1_loop.st))

/-- The overlaps the body stores, last first. -/
def stored : List (View.Piece (Elt F) S4x384x384 .f32) :=
  [⟨Rect.unit ![3, 0, 0] S1x384x384.size (square_inb 3 (by decide)), shapeCast S1x384x384 (iou (cands arg0 harg0 x0 3 (by decide))) shapeCasts_S384x384_S1x384x384⟩,
    ⟨Rect.unit ![2, 0, 0] S1x384x384.size (square_inb 2 (by decide)), shapeCast S1x384x384 (iou (cands arg0 harg0 x0 2 (by decide))) shapeCasts_S384x384_S1x384x384⟩,
    ⟨Rect.unit ![1, 0, 0] S1x384x384.size (square_inb 1 (by decide)), shapeCast S1x384x384 (iou (cands arg0 harg0 x0 1 (by decide))) shapeCasts_S384x384_S1x384x384⟩,
    ⟨Rect.unit ![0, 0, 0] S1x384x384.size (square_inb 0 (by decide)), shapeCast S1x384x384 (iou (cands arg0 harg0 x0 0 (by decide))) shapeCasts_S384x384_S1x384x384⟩]

/-! ## The run's stores are these -/

set_option maxHeartbeats 2000000 in
theorem stored_eq : bodyRun.sl.HS0_4 c arg0 harg0 x0 = stored arg0 harg0 x0 := by
  unfold bodyRun.sl.HS0_4 stored
  dsimp only [
    lanes, places, iou, overlap, inter, area, moved, laid, stood, ident, upper, down, across, cands, cand, gathered,
    field, fields, rowsHot, colsHot, low, high, score, best, better, conf, plane, image, splat, valid, lanes16, packed,
    slots, out, hot3, form, color, bodyRun.sl.r, k0_pay1, k0_pay131, k0_pay132, k0_pay133, k0_pay134, k0_pay135,
    k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153, k0_pay154, k0_pay155,
    k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175,
    k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214, k0_pay215,
    k0_pay216, k0_pay217, k0_pay218, k0_pay219, k0_pay220, k0_pay221, k0_pay222, k0_pay223, k0_pay224, k0_pay225,
    k0_pay226, k0_pay227, k0_pay228, k0_pay229, k0_pay230, k0_pay231, k0_pay232, k0_pay233, k0_pay234, k0_pay235,
    k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255,
    k0_pay256, k0_pay257, k0_pay258, k0_pay259, k0_pay260, k0_pay261, k0_pay262, k0_pay263, k0_pay264, k0_pay265,
    k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285,
    k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315,
    k0_pay316, k0_pay317, k0_pay318, k0_pay319, k0_pay320, k0_pay321, k0_pay322, k0_pay323, k0_pay324, k0_pay325,
    k0_pay326, k0_pay327, k0_pay328, k0_pay329, k0_pay330, k0_pay331, k0_pay332, k0_pay333, k0_pay334, k0_pay335,
    k0_pay336, k0_pay337, k0_pay338, k0_pay339, k0_pay340, k0_pay341, k0_pay342, k0_pay343, k0_pay344, k0_pay345,
    k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375,
    k0_pay376, k0_pay377, k0_pay378, k0_pay379, k0_pay380, k0_pay381, k0_pay382, k0_pay383, k0_pay384, k0_pay385,
    k0_pay386, k0_pay387, k0_pay388, k0_pay389, k0_pay390, k0_pay391, k0_pay392, k0_pay393, k0_pay394, k0_pay395,
    k0_pay396, k0_pay397, k0_pay398, k0_pay399, k0_pay400, k0_pay401, k0_pay402, k0_pay403, bodyRun.sl.r_1,
    bodyRun.sl.r_2, bodyRun.sl.r_3, bodyRun.sl.r_4, bodyRun.sl.r_5, bodyRun.sl.r_6, bodyRun.sl.r_7, bodyRun.sl.r_8,
    bodyRun.sl.r_9, bodyRun.sl.r_10, bodyRun.sl.r_11, bodyRun.sl.r_12, bodyRun.sl.r_13, bodyRun.sl.r_14,
    bodyRun.sl.r_15, bodyRun.sl.r_16, bodyRun.sl.r_17, bodyRun.sl.r_18, bodyRun.sl.r_19, bodyRun.sl.r_20,
    bodyRun.sl.r_21, bodyRun.sl.r_22, bodyRun.sl.r_23, bodyRun.sl.r_24, bodyRun.sl.r_25, bodyRun.sl.r_26,
    bodyRun.sl.r_27, bodyRun.sl.r_28, bodyRun.sl.r_29, bodyRun.sl.r_30, bodyRun.sl.r_31, bodyRun.sl.r_32,
    bodyRun.sl.r_33, bodyRun.sl.r_34, bodyRun.sl.r_35, bodyRun.sl.r_36, bodyRun.sl.r_37, bodyRun.sl.r_38,
    bodyRun.sl.r_39, bodyRun.sl.r_40, bodyRun.sl.r_41, bodyRun.sl.r_42, bodyRun.sl.r_43, bodyRun.sl.r_44,
    bodyRun.sl.r_45, bodyRun.sl.r_46, bodyRun.sl.r_47, bodyRun.sl.r_48, bodyRun.sl.r_49, bodyRun.sl.r_50,
    bodyRun.sl.r_51, bodyRun.sl.r_52, bodyRun.sl.r_53, bodyRun.sl.r_54, bodyRun.sl.r_55, bodyRun.sl.r_56,
    bodyRun.sl.r_57, bodyRun.sl.r_58, bodyRun.sl.r_59, bodyRun.sl.r_60, bodyRun.sl.r_61, bodyRun.sl.r_62,
    bodyRun.sl.r_63, bodyRun.sl.r_64, bodyRun.sl.r_65, bodyRun.sl.r_66, bodyRun.sl.r_67, bodyRun.sl.r_68,
    bodyRun.sl.r_69, bodyRun.sl.r_70, bodyRun.sl.r_71, bodyRun.sl.r_72, bodyRun.sl.r_73, bodyRun.sl.r_74,
    bodyRun.sl.r_75, bodyRun.sl.r_76, bodyRun.sl.r_77, bodyRun.sl.r_78, bodyRun.sl.r_79, bodyRun.sl.r_80,
    bodyRun.sl.r_81, bodyRun.sl.r_82, bodyRun.sl.r_83, bodyRun.sl.r_84, bodyRun.sl.r_85, bodyRun.sl.r_86,
    bodyRun.sl.r_87, bodyRun.sl.r_88, bodyRun.sl.r_89, bodyRun.sl.r_90, bodyRun.sl.r_91, bodyRun.sl.r_92,
    bodyRun.sl.r_93, bodyRun.sl.r_94, bodyRun.sl.r_95, bodyRun.sl.r_96, bodyRun.sl.r_97, bodyRun.sl.r_98,
    bodyRun.sl.r_99, bodyRun.sl.r_100, bodyRun.sl.r_101, bodyRun.sl.r_102, bodyRun.sl.r_103, bodyRun.sl.r_104, bodyRun.sl.cst_7, bodyRun.sl.cst_111]

/-! ## What the body leaves in the output -/

/-- The overlap array as the suppression loop finds it. -/
abbrev found : BufTy.Contents (Elt F) arg2.view.ty := arg2.view.writes (Elt F) arg2.view.junk (stored arg0 harg0 x0)

/-- Image `b`'s slots, its overlaps read at the offsets `off`. -/
def slotted (b : ℕ) (h : b < 4) (off : Fin k0_t2_loop.trips → Fin 3 → ℕ)
    (hoff : ∀ k, ∀ a, off k a + S1x16x384.size a ≤ S4x384x384.size a) : FVec F S1x20x11 .f32 :=
  shapeCast S1x20x11 (out (cands arg0 harg0 x0 b h)
    (keeps (block arg2 (found arg0 harg0 arg2 x0) off hoff) (valid (cands arg0 harg0 x0 b h).sc)
      (Scf.trips k0_t2_loop.lb k0_t2_loop.ub k0_t2_loop.st))) shapeCasts_S20x11_S1x20x11

/-- The four images' slots, last first. -/
def written : List (View.Piece (Elt F) S4x20x11 .f32) :=
  [⟨Rect.unit ![3, 0, 0] S1x20x11.size (slots_inb 3 (by decide)), slotted arg0 harg0 arg2 x0 3 (by decide) k0_off4 k0_off4_inb⟩,
    ⟨Rect.unit ![2, 0, 0] S1x20x11.size (slots_inb 2 (by decide)), slotted arg0 harg0 arg2 x0 2 (by decide) k0_off3 k0_off3_inb⟩,
    ⟨Rect.unit ![1, 0, 0] S1x20x11.size (slots_inb 1 (by decide)), slotted arg0 harg0 arg2 x0 1 (by decide) k0_off2 k0_off2_inb⟩,
    ⟨Rect.unit ![0, 0, 0] S1x20x11.size (slots_inb 0 (by decide)), slotted arg0 harg0 arg2 x0 0 (by decide) k0_off1 k0_off1_inb⟩]

set_option maxHeartbeats 2000000 in
theorem written_eq : (bodyRun c arg0 harg0 arg1 harg1 arg2 harg2 x0).1 = written arg0 harg0 arg2 x0 := by
  unfold bodyRun written slotted
  dsimp only [bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135]
  rw [state_eq _ _ _ _ _ _ _ _ _ _ _ _ _ _ _ _ _ _ _ _ _ _ _
      (show k0_pay295 (F := F) = lanes16 from rfl)
      (show k0_pay296 (F := F) = sitofp .f32 (iota .tc S16x384 32 [0] iota_S16x384_d0_w32) from rfl) _ _
      (show Scf.trips (0#32) (Scalar.addi 0#32 19#32) 1#32 ≤ k0_t2_loop.trips from le_rfl), stored_eq]
  dsimp only [
    lanes, places, iou, overlap, inter, area, moved, laid, stood, ident, upper, down, across, cands, cand, gathered,
    field, fields, rowsHot, colsHot, low, high, score, best, better, conf, plane, image, splat, valid, lanes16, packed,
    slots, out, hot3, form, color, bodyRun.sl.r, k0_pay1, k0_pay131, k0_pay132, k0_pay133, k0_pay134, k0_pay135,
    k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153, k0_pay154, k0_pay155,
    k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175,
    k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214, k0_pay215,
    k0_pay216, k0_pay217, k0_pay218, k0_pay219, k0_pay220, k0_pay221, k0_pay222, k0_pay223, k0_pay224, k0_pay225,
    k0_pay226, k0_pay227, k0_pay228, k0_pay229, k0_pay230, k0_pay231, k0_pay232, k0_pay233, k0_pay234, k0_pay235,
    k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255,
    k0_pay256, k0_pay257, k0_pay258, k0_pay259, k0_pay260, k0_pay261, k0_pay262, k0_pay263, k0_pay264, k0_pay265,
    k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285,
    k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315,
    k0_pay316, k0_pay317, k0_pay318, k0_pay319, k0_pay320, k0_pay321, k0_pay322, k0_pay323, k0_pay324, k0_pay325,
    k0_pay326, k0_pay327, k0_pay328, k0_pay329, k0_pay330, k0_pay331, k0_pay332, k0_pay333, k0_pay334, k0_pay335,
    k0_pay336, k0_pay337, k0_pay338, k0_pay339, k0_pay340, k0_pay341, k0_pay342, k0_pay343, k0_pay344, k0_pay345,
    k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375,
    k0_pay376, k0_pay377, k0_pay378, k0_pay379, k0_pay380, k0_pay381, k0_pay382, k0_pay383, k0_pay384, k0_pay385,
    k0_pay386, k0_pay387, k0_pay388, k0_pay389, k0_pay390, k0_pay391, k0_pay392, k0_pay393, k0_pay394, k0_pay395,
    k0_pay396, k0_pay397, k0_pay398, k0_pay399, k0_pay400, k0_pay401, k0_pay402, k0_pay403, bodyRun.sl.r_1,
    bodyRun.sl.r_2, bodyRun.sl.r_3, bodyRun.sl.r_4, bodyRun.sl.r_5, bodyRun.sl.r_6, bodyRun.sl.r_7, bodyRun.sl.r_8,
    bodyRun.sl.r_9, bodyRun.sl.r_10, bodyRun.sl.r_11, bodyRun.sl.r_12, bodyRun.sl.r_13, bodyRun.sl.r_14,
    bodyRun.sl.r_15, bodyRun.sl.r_16, bodyRun.sl.r_17, bodyRun.sl.r_18, bodyRun.sl.r_19, bodyRun.sl.r_20,
    bodyRun.sl.r_21, bodyRun.sl.r_22, bodyRun.sl.r_23, bodyRun.sl.r_24, bodyRun.sl.r_25, bodyRun.sl.r_26,
    bodyRun.sl.r_27, bodyRun.sl.r_28, bodyRun.sl.r_29, bodyRun.sl.r_30, bodyRun.sl.r_31, bodyRun.sl.r_32,
    bodyRun.sl.r_33, bodyRun.sl.r_34, bodyRun.sl.r_35, bodyRun.sl.r_36, bodyRun.sl.r_37, bodyRun.sl.r_38,
    bodyRun.sl.r_39, bodyRun.sl.r_40, bodyRun.sl.r_41, bodyRun.sl.r_42, bodyRun.sl.r_43, bodyRun.sl.r_44,
    bodyRun.sl.r_45, bodyRun.sl.r_46, bodyRun.sl.r_47, bodyRun.sl.r_48, bodyRun.sl.r_49, bodyRun.sl.r_50,
    bodyRun.sl.r_51, bodyRun.sl.r_52, bodyRun.sl.r_53, bodyRun.sl.r_54, bodyRun.sl.r_55, bodyRun.sl.r_56,
    bodyRun.sl.r_57, bodyRun.sl.r_58, bodyRun.sl.r_59, bodyRun.sl.r_60, bodyRun.sl.r_61, bodyRun.sl.r_62,
    bodyRun.sl.r_63, bodyRun.sl.r_64, bodyRun.sl.r_65, bodyRun.sl.r_66, bodyRun.sl.r_67, bodyRun.sl.r_68,
    bodyRun.sl.r_69, bodyRun.sl.r_70, bodyRun.sl.r_71, bodyRun.sl.r_72, bodyRun.sl.r_73, bodyRun.sl.r_74,
    bodyRun.sl.r_75, bodyRun.sl.r_76, bodyRun.sl.r_77, bodyRun.sl.r_78, bodyRun.sl.r_79, bodyRun.sl.r_80,
    bodyRun.sl.r_81, bodyRun.sl.r_82, bodyRun.sl.r_83, bodyRun.sl.r_84, bodyRun.sl.r_85, bodyRun.sl.r_86,
    bodyRun.sl.r_87, bodyRun.sl.r_88, bodyRun.sl.r_89, bodyRun.sl.r_90, bodyRun.sl.r_91, bodyRun.sl.r_92,
    bodyRun.sl.r_93, bodyRun.sl.r_94, bodyRun.sl.r_95, bodyRun.sl.r_96, bodyRun.sl.r_97, bodyRun.sl.r_98,
    bodyRun.sl.r_99, bodyRun.sl.r_100, bodyRun.sl.r_101, bodyRun.sl.r_102, bodyRun.sl.r_103, bodyRun.sl.r_104, bodyRun.sl.cst_7, bodyRun.sl.cst_111]

end Cert.Proof.KernelIdeal

end
-- ==== Proof.IdealFrame.lean ====
/- The kernel's launch: its argument stays, its counters end at zero, and its result holds what the body leaves. -/
module

public import proofs.«01_k».proof.Defs
public import proofs.«01_k».proof.Proof.Body
public import Idealize.ShloMosaic.Lib.Pipeline.Value

@[expose] public section

set_option maxRecDepth 16384

noncomputable section

namespace Cert.Proof.KernelIdeal

open Cert.KernelIdeal Cert.KernelIdeal.Gen Cert.Proof.Image
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant: the overlap array at some contents, beside the generator register. -/
theorem inv_eq (c : Dev nD) : (Pipeline.ΦA spec0 c : sProp 𝕄)
    = iprop(iprop((∃ d, owns (c : Thread nD τ) (Memref.whole cc0_scratch0 : Memref sig .tc .vmem S4x384x384 .f32) fullShare d))
      ∗ (∃ r, prngReg c r)) := by
  unfold Pipeline.ΦA; rw [scopedRest0_eq]; simp only [owns_whole]; try rfl

/-- The four images' slots cover the output's buffer. -/
theorem covered (arg0 : Memref sig .tc .vmem S4x14x160x128 .f32) (harg0 : arg0.IsWhole)
    (arg2 : Memref sig .tc .vmem S4x384x384 .f32) (x0 : Vec F S4x14x160x128 .f32) (y : S4x20x11.Idx) :
    ∃ pc ∈ written arg0 harg0 arg2 x0, y ∈ pc.1.set :=
  View.cover_of_tiledL (written arg0 harg0 arg2 x0) S1x20x11.size (by sl_kernel_rfl) y

/-- The output's staging buffer. -/
abbrev outView : View sig .tc .vmem S4x20x11 .f32 := (Memref.whole cc0_stg1_0).view

/-- What the body leaves there at a point. -/
def outAt (c : Dev nD) (t : Fin cfg0.N) : Vec F S4x20x11 .f32 :=
  outView.read (Elt F) (outView.writes (Elt F) outView.junk
    (written (st0_0 t) (hstage0_0 0) (Memref.whole cc0_scratch0) (iblk m c 0 t)))

/-- The launch's proof data: the input's block stays, the output's is what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]

theorem before_in (c : Dev nD) (t : Fin cfg0.N) (d) : (dats m 0 c).before 0 t d = iblk m c 0 t :=
  before0_0_of m (dats m 0 c) (arrays_eq m c 0) (after_in m c) t d

/-- The body at a grid point, from what the launch hands it to what it hands back. -/
theorem point_runs (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t))) := by
  unfold bodyAt0
  simp only [before_in]
  rw [show (dats m 0 c).Φ t.succ = (dats m 0 c).Φ t.castSucc from rfl,
    show (dats m 0 c).owesAt () t.succ = (dats m 0 c).owesAt () t.castSucc from rfl, after_in, after_out]
  rw [show (dats m 0 c).Φ t.castSucc = Pipeline.ΦA spec0 c from rfl, inv_eq]
  unfold outAt
  iintro ⟨⟨Hs, Hg⟩, Ho, ⟨%d0, H0⟩, ⟨%d1, H1⟩⟩
  iapply ((bodyRun c _ _ _ _ _ _ (iblk m c 0 t)).2 _)
  isplitl [H0]; · iexact H0
  isplitl [H1]; · iexists _; iexact H1
  isplitl [Hs]; · iexact Hs
  iintro ⟨H0, ⟨%e1, H1⟩, Hs⟩
  isplitl [Hs Hg]
  · isplitl [Hs]
    · iexact Hs
    iexact Hg
  isplitl [Ho]; · iexact Ho
  isplitl [H0]; · iexact H0
  rw [written_eq]
  unfold owns; iexists _; isplitr
  swap; · iexact H1
  ipureintro; exact View.read_writes_of_cover _ _ _ _ _ (covered _ _ _ _)

theorem point_body (t : Fin cfg0.N) :
    defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ := fun t => by
  rw [bigSep_W0, bigSep_W0, point_body]
  exact triple_restated (point_runs m c t) rfl .rfl fun _ => .rfl

set_option backward.isDefEq.respectTransparency.types false in
theorem launched : θ_run defs (onTc (τ := τ) (main (F := F))) (s₀ m ρ) (fun r =>
    (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hΦ := fun _ _ => rfl)

/-- The frame claim, at any reading of the floats. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    ((h.1 c).2 main_arg0 (Pipeline.mem_restRefs_of main_arg0 (by decide) (by decide))).trans (V_main_arg0 m c), h.2⟩)
    (launched m ρ)

/-- The one grid point. -/
abbrev only : Fin cfg0.N := ⟨0, by decide⟩

/-- The result array is what the one grid point leaves in its staging buffer. -/
theorem result_eq (c : Dev nD) : (dats m 0 c).arrAt 1 cfg0.N = outAt m c only := by
  have inj : ∀ t t' : Fin cfg0.N, win0_1.index t = win0_1.index t' → t = t' :=
    (by decide +kernel : ∀ t t' : Fin grid0.N, win0_1.index t = win0_1.index t' → t = t')
  have hb := (dats m 0 c).read_blk_arrAt_eq_flushed 1
    (fun t t' _ _ hne => (cfg0.win 1).disjoint_blk fun h => hne (inj t t' h)) cfg0.N only (by decide) (by decide)
  have hf : (dats m 0 c).flushed 1 only = (cfg0.win 1).cut (grid0.coords only) (outAt m c only) := by
    show (cfg0.win 1).cut (grid0.coords only) ((dats m 0 c).after 1 only) = _
    rw [after_out]
  rw [hf] at hb
  funext y
  have he : ((cfg0.win 1).blk only).view.emb y = y := by
    funext a
    apply Fin.ext
    show ((win0_1.rect only).emb y a : ℕ) = y a
    rw [Pipeline.Window.rect_emb_val_off]
    have hz : ∀ a : Fin 3, win0_1.kind.off (win0_1.index only a) (win0_1.size a) = 0 := by decide +kernel
    have := hz a
    omega
  have hy := congrFun hb y
  rw [View.read_apply, he] at hy
  exact hy

/-- The run with its result named. -/
theorem ran : θ_run defs (onTc (τ := τ) (main (F := F))) ⟨m, fun _ => 0, ρ⟩ (fun r => ∀ c : Dev nD,
      r.2.mem ((c.tc : Thread nD τ).loc main_v0) = outAt m c only
      ∧ r.2.mem ((c.tc : Thread nD τ).loc main_arg0) = m ((c.tc : Thread nD τ).loc main_arg0)) :=
  (θ_run defs _ _).mono (fun _ h c => ⟨((h.1 c).1 1).trans (result_eq m c),
    ((h.1 c).2 main_arg0 (Pipeline.mem_restRefs_of main_arg0 (by decide) (by decide))).trans (V_main_arg0 m c)⟩)
    (launched m ρ)

end Cert.Proof.KernelIdeal

end
-- ==== Proof.ReferenceRun.lean ====
/- The reference's run: its argument stays, its counters are at zero, and its result is what its last operation leaves. -/
module

public import proofs.«01_k».proof.Defs
public import proofs.«01_k».proof.Proof.Gen.ReferenceIdeal.Run

@[expose] public section

set_option maxRecDepth 16384

noncomputable section

namespace Cert.Proof.ReferenceIdeal

open Cert.ReferenceIdeal Cert.ReferenceIdeal.Gen Cert.ReferenceIdeal.Value
open Idealize.ShloMosaic
open Idealize.ShloMosaic.TcCoe
open Idealize.ShloMosaic.StableHlo

variable {F : FTy → Type} [FloatOps F]

variable (m : (ℓ : Loc nD τ sig) → Buf (Elt F) ℓ)

/-- What the buffers hold when the loop is entered. -/
abbrev entry (c : Dev nD) : Valuation τ sig (Elt F) := entryContents preI m c

/-- What they hold when it is left. -/
abbrev left (c : Dev nD) : Valuation τ sig (Elt F) := after condOps (atK m 300 c)

theorem post_arg0 (V : Valuation τ sig (Elt F)) :
    afterL postI V (Proc.devRef .tc main_arg0) = V (Proc.devRef .tc main_arg0) := by
  rw [afterL_eq_after_flatten]
  refine after_of_forall_not_mem _ V fun op hop => ?_
  fin_cases hop <;> exact fun h => devRef_ne_of_ne (by decide) (Finset.mem_singleton.mp h)

theorem body_arg0 (V : Valuation τ sig (Elt F)) :
    afterL bodyI V (Proc.devRef .tc main_arg0) = V (Proc.devRef .tc main_arg0) := by
  rw [afterL_eq_after_flatten]
  refine after_of_forall_not_mem _ V fun op hop => ?_
  fin_cases hop <;> exact fun h => devRef_ne_of_ne (by decide) (Finset.mem_singleton.mp h)

theorem cond_arg0 (V : Valuation τ sig (Elt F)) :
    after condOps V (Proc.devRef .tc main_arg0) = V (Proc.devRef .tc main_arg0) :=
  after_of_writes_sub condOps V condOps_writes (by decide +kernel)

theorem entry_arg0 (c : Dev nD) :
    entry m c (Proc.devRef .tc main_arg0) = m ((c.tc : Thread nD τ).loc main_arg0) := by
  simp only [entry, entryContents, preI, afterL_cons, afterL_nil]
  rw [after_of_writes_sub _ _ hostOps0_6_writes (by decide +kernel),
    after_of_writes_sub _ _ hostOps0_5_writes (by decide +kernel),
    after_of_writes_sub _ _ hostOps0_4_writes (by decide +kernel),
    after_of_writes_sub _ _ hostOps0_3_writes (by decide +kernel),
    after_of_writes_sub _ _ hostOps0_2_writes (by decide +kernel),
    after_of_writes_sub _ _ hostOps0_1_writes (by decide +kernel),
    after_of_writes_sub _ _ hostOps0_writes (by decide +kernel)]

theorem trips_arg0 (c : Dev nD) : ∀ k : ℕ,
    atK m k c (Proc.devRef .tc main_arg0) = m ((c.tc : Thread nD τ).loc main_arg0)
  | 0 => entry_arg0 m c
  | k + 1 => by
    show afterL bodyI (after condOps (atK m k c)) _ = _
    rw [body_arg0, cond_arg0, trips_arg0 c k]

/-- The run: the result's buffer at the last stretch's value, and the argument as it was. -/
theorem ran (ρ : Dev nD → PrngReg) : θ_run defs (onTc (τ := τ) (main (F := F))) ⟨m, fun _ => 0, ρ⟩ (fun r => ∀ c : Dev nD,
      r.2.mem ((c.tc : Thread nD τ).loc main_v176) = afterL postI (left m c) (Proc.devRef .tc main_v176)
      ∧ r.2.mem ((c.tc : Thread nD τ).loc main_arg0) = m ((c.tc : Thread nD τ).loc main_arg0)) :=
  (θ_run defs _ _).mono (fun _ h c => ⟨h c main_v176 rfl, (h c main_arg0 rfl).trans (by
    show afterL postI (after condOps (atK m 300 c)) _ = _
    rw [post_arg0, cond_arg0, trips_arg0])⟩) (run_fold m ρ)

/-- The frame claim: it declares no semaphore. -/
theorem framed (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (ran m ρ)

end Cert.Proof.ReferenceIdeal

end
-- ==== Proof.Spec.lean ====
/- The selection as mathematics: the order in which a stable sort takes the anchors. -/
module

public import Idealize.ShloMosaic.Init
public import Idealize.ShloMosaic.Lib.SortFacts
public import Idealize.ShloMosaic.PureOps.Ideal.Laws
public import Idealize.ShloMosaic.Lib.IdealHost

@[expose] public section

noncomputable section

namespace Cert.Proof.Spec

open Idealize.ShloMosaic

section Ranks

variable {n : ℕ} (R : Fin n → Fin n → Bool)

/-- A place before another in the sorted order: strictly before by `R`, or tied and earlier. -/
def Ahead (b c : Fin n) : Prop := R b c = true ∨ (R c b = false ∧ b < c)

theorem ahead_insert (hR : ∀ a b c, R a b = true → R c b = false → R a c = true)
    (ht : ∀ a b c, R a b = true → R b c = true → R a c = true)
    (a : Fin n) (l : List (Fin n)) (ha : ∀ b ∈ l, a < b) (hl : l.Pairwise (Ahead R)) :
    (insertBefore R a l).Pairwise (Ahead R) := by
  induction l with
  | nil => exact List.pairwise_singleton _ _
  | cons b l ih =>
    rw [List.pairwise_cons] at hl
    unfold insertBefore
    split
    next h =>
      refine List.pairwise_cons.mpr ⟨fun c hc => ?_, ih (fun c hc => ha c (List.mem_cons_of_mem b hc)) hl.2⟩
      rcases List.mem_cons.mp ((perm_insertBefore R a l).mem_iff.mp hc) with rfl | hc
      · exact .inl h
      · exact hl.1 c hc
    next h =>
      have h' : R b a = false := by simpa using h
      refine List.pairwise_cons.mpr ⟨fun c hc => ?_, List.pairwise_cons.mpr hl⟩
      rcases List.mem_cons.mp hc with rfl | hc'
      · exact .inr ⟨h', ha _ List.mem_cons_self⟩
      · refine .inr ⟨?_, ha c hc⟩
        rcases hl.1 c hc' with hb | ⟨hb, -⟩
        · by_contra hca
          have hca : R c a = true := by simpa using hca
          exact absurd (ht b c a hb hca) (by simp [h'])
        · by_contra hca
          have hca : R c a = true := by simpa using hca
          have := hR c a b hca h'
          simp [hb] at this

theorem ahead_sort (hR : ∀ a b c, R a b = true → R c b = false → R a c = true)
    (ht : ∀ a b c, R a b = true → R b c = true → R a c = true)
    (l : List (Fin n)) (hl : l.Pairwise (· < ·)) : (stableSort R l).Pairwise (Ahead R) := by
  induction l with
  | nil => exact List.Pairwise.nil
  | cons a l ih =>
    rw [List.pairwise_cons] at hl
    unfold stableSort
    exact ahead_insert R hR ht a _ (fun b hb => hl.1 b ((perm_stableSort R l).mem_iff.mp hb)) (ih hl.2)

theorem ahead_sortedFrom (hR : ∀ a b c, R a b = true → R c b = false → R a c = true)
    (ht : ∀ a b c, R a b = true → R b c = true → R a c = true) (i j : Fin n) (h : i < j) :
    Ahead R (sortedFrom R i) (sortedFrom R j) :=
  List.pairwise_iff_get.mp (ahead_sort R hR ht (List.finRange n) (List.pairwise_lt_finRange n)) _ _ h

end Ranks

/-! ## The constants -/

theorem const_quarter : Ideal.ofBits .f32 0x3E800000#32 = ((1 / 4 : ℝ) : EReal) := by
  simp [Ideal.ofBits, Ideal.ieee, -EReal.coe_mul]; norm_num
theorem const_neg_one : Ideal.ofBits .f32 0xBF800000#32 = ((-1 : ℝ) : EReal) := by
  simp [Ideal.ofBits, Ideal.ieee, -EReal.coe_mul, -EReal.coe_neg]; norm_num
theorem const_neg_two : Ideal.ofBits .f32 0xC0000000#32 = ((-2 : ℝ) : EReal) := by
  simp [Ideal.ofBits, Ideal.ieee, -EReal.coe_mul, -EReal.coe_neg]; norm_num
theorem const_two : Ideal.ofBits .f32 0x40000000#32 = ((2 : ℝ) : EReal) := by
  simp [Ideal.ofBits, Ideal.ieee, -EReal.coe_mul]; norm_num
theorem const_three : Ideal.ofBits .f32 0x40400000#32 = ((3 : ℝ) : EReal) := by
  simp [Ideal.ofBits, Ideal.ieee, -EReal.coe_mul]; norm_num
theorem const_four : Ideal.ofBits .f32 0x40800000#32 = ((4 : ℝ) : EReal) := by
  simp [Ideal.ofBits, Ideal.ieee, -EReal.coe_mul]; norm_num
theorem const_five : Ideal.ofBits .f32 0x40A00000#32 = ((5 : ℝ) : EReal) := by
  simp [Ideal.ofBits, Ideal.ieee, -EReal.coe_mul]; norm_num
theorem const_six : Ideal.ofBits .f32 0x40C00000#32 = ((6 : ℝ) : EReal) := by
  simp [Ideal.ofBits, Ideal.ieee, -EReal.coe_mul]; norm_num
theorem const_seven : Ideal.ofBits .f32 0x40E00000#32 = ((7 : ℝ) : EReal) := by
  simp [Ideal.ofBits, Ideal.ieee, -EReal.coe_mul]; norm_num
theorem const_eight : Ideal.ofBits .f32 0x41000000#32 = ((8 : ℝ) : EReal) := by
  simp [Ideal.ofBits, Ideal.ieee, -EReal.coe_mul]; norm_num
theorem const_half : Ideal.ofBits .f32 0x3F000000#32 = ((1 / 2 : ℝ) : EReal) := by
  simp [Ideal.ofBits, Ideal.ieee, -EReal.coe_mul]; norm_num
theorem const_128 : Ideal.ofBits .f32 0x43000000#32 = ((128 : ℝ) : EReal) := by
  simp [Ideal.ofBits, Ideal.ieee, -EReal.coe_mul]; norm_num
theorem const_128th : Ideal.ofBits .f32 0x3C000000#32 = ((1 / 128 : ℝ) : EReal) := by
  simp [Ideal.ofBits, Ideal.ieee, -EReal.coe_mul]; norm_num
theorem const_far : Ideal.ofBits .f32 0x4BE4E1C0#32 = ((30000000 : ℝ) : EReal) := by
  simp [Ideal.ofBits, Ideal.ieee, -EReal.coe_mul]; norm_num
theorem const_top : Ideal.ofBits .f32 0x7F800000#32 = ⊤ := by
  simp [Ideal.ofBits, Ideal.ieee]
theorem const_bot : Ideal.ofBits .f32 0xFF800000#32 = ⊥ := by
  simp [Ideal.ofBits, Ideal.ieee]

theorem div_two (x : EReal) : Ideal.div x (Ideal.ofBits .f32 0x40000000#32) = x * Ideal.ofBits .f32 0x3F000000#32 := by
  rw [const_two, const_half]; exact Ideal.div_coe (by norm_num) x
theorem div_128 (x : EReal) : Ideal.div x (Ideal.ofBits .f32 0x43000000#32) = x * Ideal.ofBits .f32 0x3C000000#32 := by
  rw [const_128, const_128th]; exact Ideal.div_coe (by norm_num) x

/-! ## One image: `a n i` is field `i` of anchor `n` -/

variable (a : ℕ → ℕ → EReal)

/-- The confidence of an anchor in a class. -/
def conf (n k : ℕ) : EReal := a n 4 * a n (5 + k)

/-- The greatest confidence among the classes up to `k`, and the first class that has it. -/
def best (n : ℕ) : ℕ → EReal × ℕ
  | 0 => (conf a n 0, 0)
  | k + 1 => if (best n k).1 < conf a n (k + 1) then (conf a n (k + 1), k + 1) else best n k

/-- The best confidence. -/
def prob (n : ℕ) : EReal := (best a n 8).1
/-- The best class. -/
def cls (n : ℕ) : ℕ := (best a n 8).2

/-- The threshold of the scores. -/
def quarter : EReal := Ideal.ofBits .f32 0x3E800000#32

/-- The score an anchor is ranked by. -/
def score (n : ℕ) : EReal := if quarter < prob a n then prob a n else Ideal.ofBits .f32 0xBF800000#32

/-- The anchors from the best: the place of each rank. -/
def order (t : Fin 20000) : Fin 20000 := sortedFrom (fun k k' => decide (score a k' < score a k)) t

/-- The anchor of rank `t`. -/
def ranked (t : ℕ) : ℕ := if h : t < 20000 then order a ⟨t, h⟩ else 0

theorem order_ahead (i j : Fin 20000) (h : i < j) :
    Ahead (fun k k' : Fin 20000 => decide (score a k' < score a k)) (order a i) (order a j) :=
  ahead_sortedFrom _ (fun x y z hxy hzy => by
      simp only [decide_eq_true_eq, decide_eq_false_iff_not, not_lt] at hxy hzy ⊢; exact lt_of_le_of_lt hzy hxy)
    (fun x y z hxy hyz => by
      simp only [decide_eq_true_eq] at hxy hyz ⊢; exact lt_trans hyz hxy) i j h

theorem ranked_lt (t : ℕ) : ranked a t < 20000 := by
  unfold ranked; split
  · exact (order a _).isLt
  · decide

theorem ranked_inj {t u : ℕ} (ht : t < 20000) (hu : u < 20000) (h : ranked a t = ranked a u) : t = u := by
  unfold ranked at h
  rw [dif_pos ht, dif_pos hu] at h
  have := sortedFrom_injective _ (Fin.ext h)
  simpa using this

theorem ranked_surj (n : ℕ) (hn : n < 20000) : ∃ t < 20000, ranked a t = n := by
  obtain ⟨t, ht⟩ := sortedFrom_surjective (fun k k' : Fin 20000 => decide (score a k' < score a k)) ⟨n, hn⟩
  refine ⟨t, t.isLt, ?_⟩
  unfold ranked order
  rw [dif_pos t.isLt, ht]

/-- A later rank scores no more, and on equal scores its place is later. -/
theorem ranked_ahead {t u : ℕ} (h : t < u) (hu : u < 20000) :
    score a (ranked a u) < score a (ranked a t) ∨ (score a (ranked a u) = score a (ranked a t) ∧ ranked a t < ranked a u) := by
  have := order_ahead a ⟨t, h.trans hu⟩ ⟨u, hu⟩ h
  unfold ranked
  rw [dif_pos hu, dif_pos (h.trans hu)]
  simp only [Ahead, decide_eq_true_eq, decide_eq_false_iff_not, not_lt] at this
  rcases this with h | ⟨h, h'⟩
  · exact .inl h
  · rcases h.lt_or_eq with h | h
    · exact .inl h
    · exact .inr ⟨h, h'⟩

/-- An anchor no earlier rank took: it scores at most what rank `t` does, and on equal scores it is no earlier. -/
theorem ranked_best {t : ℕ} (ht : t < 20000) {n : ℕ} (hn : n < 20000) (h : ∀ u < t, ranked a u ≠ n) :
    score a n ≤ score a (ranked a t) ∧ (score a n = score a (ranked a t) → ranked a t ≤ n) := by
  obtain ⟨u, hu, rfl⟩ := ranked_surj a n hn
  rcases lt_trichotomy t u with htu | rfl | hut
  · rcases ranked_ahead a htu hu with h' | ⟨h', h''⟩
    · exact ⟨h'.le, fun e => absurd e h'.ne⟩
    · exact ⟨h'.le, fun _ => h''.le⟩
  · exact ⟨le_rfl, fun _ => le_rfl⟩
  · exact absurd rfl (h u hut)

/-- An anchor's box: corner `c` of `x1, y1, x2, y2`. -/
def corner (n c : ℕ) : EReal :=
  if c < 2 then a n c - Ideal.div (a n (c + 2)) (Ideal.ofBits .f32 0x40000000#32)
  else a n (c - 2) + Ideal.div (a n c) (Ideal.ofBits .f32 0x40000000#32)

/-- A pick's corner, moved by its class. -/
def moved (t c : ℕ) : EReal :=
  corner a (ranked a t) c + ((cls a (ranked a t) : ℝ) : EReal) * Ideal.ofBits .f32 0x46000000#32

/-- The area of a pick's moved box. -/
def area (t : ℕ) : EReal := (moved a t 2 - moved a t 0) * (moved a t 3 - moved a t 1)

/-- The extent of two picks' intersection along axis `d`. -/
def extent (i j d : ℕ) : EReal :=
  max 0 (min (moved a i (2 + d)) (moved a j (2 + d)) - max (moved a i d) (moved a j d))

/-- Two picks' overlap. -/
def iou (i j : ℕ) : EReal :=
  Ideal.div (extent a i j 0 * extent a i j 1)
    (((area a i + area a j) - extent a i j 0 * extent a i j 1) + Ideal.ofBits .f32 0x3089705F#32)

/-- Does pick `i` cover pick `j`? -/
def covers (i j : ℕ) : Prop := Ideal.ofBits .f32 0x3EE66666#32 < iou a i j ∧ i < j

/-- The picks kept after the first `i` have had their say. -/
def kept : ℕ → ℕ → Prop
  | 0, j => j < 300 ∧ quarter < score a (ranked a j)
  | i + 1, j => kept i j ∧ ¬ (covers a i j ∧ kept i i)

open Classical in
/-- How many of the first `t` picks are kept. -/
def count (t : ℕ) : ℕ := ((Finset.range t).filter (kept a 300)).card

/-- Pick `t` is the one in slot `e`. -/
def holds (e t : ℕ) : Prop := kept a 300 t ∧ count a t = e

open Classical in
/-- A slot's value, where a pick's is `v`: zero where no pick is in the slot. -/
def slot (v : ℕ → EReal) (e : ℕ) : EReal := ∑ t : Fin 300, if holds a e t then v t else 0

theorem kept_lt {i j : ℕ} (h : kept a i j) : j < 300 := by
  induction i with
  | zero => exact h.1
  | succ i ih => exact ih h.1

theorem kept_more {i : ℕ} (hi : 300 ≤ i) (j : ℕ) : kept a i j ↔ kept a 300 j := by
  induction i, hi using Nat.le_induction with
  | base => rfl
  | succ i hi ih =>
    rw [← ih]
    exact ⟨fun h => h.1, fun h => ⟨h, fun h' => absurd (kept_lt a h'.2) (by omega)⟩⟩

theorem kept_score {i j : ℕ} (h : kept a i j) : quarter < score a (ranked a j) := by
  induction i with
  | zero => exact h.2
  | succ i ih => exact ih h.1

theorem count_succ (t : ℕ) (h : kept a 300 t) : count a (t + 1) = count a t + 1 := by
  classical
  unfold count
  rw [Finset.range_add_one, Finset.filter_insert, if_pos h, Finset.card_insert_of_notMem]
  simp

theorem count_mono {t u : ℕ} (h : t ≤ u) : count a t ≤ count a u := by
  classical
  unfold count
  exact Finset.card_le_card (Finset.filter_subset_filter _ (Finset.range_mono h))

theorem holds_unique {e t u : ℕ} (ht : holds a e t) (hu : holds a e u) : t = u := by
  rcases lt_trichotomy t u with h | h | h
  · have h1 := count_succ a t ht.1
    have h2 := count_mono a (show t + 1 ≤ u by omega)
    have := ht.2; have := hu.2; omega
  · exact h
  · have h1 := count_succ a u hu.1
    have h2 := count_mono a (show u + 1 ≤ t by omega)
    have := ht.2; have := hu.2; omega

/-- A slot with a pick has that pick's value … -/
theorem slot_of_holds (v : ℕ → EReal) {e t : ℕ} (h : holds a e t) : slot a v e = v t := by
  classical
  unfold slot
  rw [Finset.sum_eq_single (⟨t, kept_lt a h.1⟩ : Fin 300)]
  · rw [if_pos h]
  · intro u _ hu
    rw [if_neg]
    intro h'
    exact hu (Fin.ext (holds_unique a h' h))
  · intro h'; exact absurd (Finset.mem_univ _) h'

/-- … and one without is zero. -/
theorem slot_of_not (v : ℕ → EReal) {e : ℕ} (h : ∀ t, ¬ holds a e t) : slot a v e = 0 := by
  classical
  unfold slot
  exact Finset.sum_eq_zero fun t _ => if_neg (h t)

theorem best_le (n k : ℕ) : (best a n k).2 ≤ k := by
  induction k with
  | zero => exact le_rfl
  | succ k ih =>
    unfold best
    split
    · exact le_rfl
    · exact ih.trans (by omega)

/-- A slot's corner, class and score. -/
def slotCorner (e c : ℕ) : EReal := slot a (fun t => corner a (ranked a t) c) e
def slotCls (e : ℕ) : EReal := slot a (fun t => ((cls a (ranked a t) : ℝ) : EReal)) e
def slotProb (e : ℕ) : EReal := slot a (fun t => prob a (ranked a t)) e

/-- A slot's class is a number up to eight. -/
theorem slotCls_nat (e : ℕ) : ∃ k : ℕ, k ≤ 8 ∧ slotCls a e = ((k : ℝ) : EReal) := by
  by_cases h : ∃ t, holds a e t
  · obtain ⟨t, ht⟩ := h
    exact ⟨cls a (ranked a t), best_le a _ 8, slot_of_holds a _ ht⟩
  · exact ⟨0, by omega, by unfold slotCls; rw [slot_of_not a _ (fun t ht => h ⟨t, ht⟩)]; simp⟩

open Classical in
/-- Column `l` of slot `e`: the box over 128, three colours, three shapes, the score. -/
def result (e l : ℕ) : EReal :=
  if l < 4 then Ideal.div (slotCorner a e l) (Ideal.ofBits .f32 0x43000000#32)
  else if l < 7 then (if ∃ k : ℕ, slotCls a e = ((k : ℝ) : EReal) ∧ k / 3 = l - 4 then slotProb a e else 0)
  else if l < 10 then (if ∃ k : ℕ, slotCls a e = ((k : ℝ) : EReal) ∧ k % 3 = l - 7 then slotProb a e else 0)
  else slotProb a e

end Cert.Proof.Spec

end
-- ==== Proof.Planes.lean ====
/- The image's planes read at a place: the scores the kernel ranks by are the mathematics' scores. -/
module

public import proofs.«01_k».proof.Proof.Image
public import proofs.«01_k».proof.Proof.Spec
public import Idealize.ShloMosaic.Lib.ValueIdx
public import Idealize.ShloMosaic.Lib.ValueLayout

@[expose] public section

noncomputable section

namespace Cert.Proof.Planes

open Cert.KernelIdeal Cert.KernelIdeal.Gen
open Cert.Proof.Image
open Idealize.ShloMosaic Idealize.ShloMosaic.TcCoe Idealize.ShloMosaic.ValueIdx

/-! ## Comparisons and numbers -/

theorem select_ogt {α : Type} (x y : EReal) (p q : α) : Scalar.select (FloatOps.cmpf (F := Ideal) (φ := .f32) .ogt x y) p q = if y < x then p else q := by
  by_cases h : y < x <;> simp [Scalar.select, Ideal.cmpf_def, Ideal.cmp, h]

theorem select_oeq {α : Type} (x y : EReal) (p q : α) : Scalar.select (FloatOps.cmpf (F := Ideal) (φ := .f32) .oeq x y) p q = if x = y then p else q := by
  by_cases h : x = y <;> simp [Scalar.select, Ideal.cmpf_def, Ideal.cmp, h]

/-- A word as a float. -/
theorem float_word (n : ℕ) (h : n < 2 ^ 31) : (FloatOps.sitofp (F := Ideal) .f32 (BitVec.ofNat 32 n) : EReal) = ((n : ℝ) : EReal) := by
  show (((BitVec.ofNat 32 n).toInt : ℝ) : EReal) = _
  have : (BitVec.ofNat 32 n).toInt = (n : Int) := by
    rw [BitVec.toInt_ofNat']; simp only [Int.bmod]; omega
  rw [this]; simp

/-- One where a comparison holds, zero elsewhere. -/
theorem float_bit (b : Bool) : (FloatOps.sitofp (F := Ideal) .f32 ((BitVec.ofBool b).setWidth 32) : EReal) = if b then 1 else 0 := by
  show ((((BitVec.ofBool b).setWidth 32).toInt : ℝ) : EReal) = _
  cases b <;> simp

/-- An image's vector holds `a`: field `i` of the place `128 r + l`. -/
def Holds (a : ℕ → ℕ → EReal) (x : FVec Ideal S14x160x128 .f32) : Prop :=
  ∀ (i : Fin 14) (r : Fin 160) (l : Fin 128), x (ix3 i r l) = a (128 * r.val + l.val) i.val

variable {a : ℕ → ℕ → EReal} {x : FVec Ideal S14x160x128 .f32}

theorem plane_apply (hx : Holds a x) (i : ℕ) (h : i < 14) (r : Fin 160) (l : Fin 128) :
    plane x i h (ix2 r l) = a (128 * r.val + l.val) i := by
  unfold plane
  rw [shapeCast_1ab_ab_apply]
  rw [← hx ⟨i, h⟩ r l]
  show x _ = x _
  congr 1
  funext d
  match d with
  | ⟨0, _⟩ => exact Fin.ext (by show i + 0 = i; omega)
  | ⟨1, _⟩ => exact Fin.ext (by show 0 + r.val = r.val; omega)
  | ⟨2, _⟩ => exact Fin.ext (by show 0 + l.val = l.val; omega)

theorem conf_apply (hx : Holds a x) (k : ℕ) (h : 5 + k < 14) (r : Fin 160) (l : Fin 128) :
    conf x k h (ix2 r l) = Spec.conf a (128 * r.val + l.val) k := by
  unfold conf Spec.conf
  rw [mulf_apply, plane_apply hx, plane_apply hx]

theorem better_apply (hx : Holds a x) (k : ℕ) (h : 5 + (k + 1) < 14) (b : BitVec 32)
    (hb : Ideal.ofBits .f32 b = (((k + 1 : ℕ) : ℝ) : EReal)) (s : FVec Ideal S160x128 .f32 × FVec Ideal S160x128 .f32)
    (r : Fin 160) (l : Fin 128) (h1 : s.1 (ix2 r l) = (Spec.best a (128 * r.val + l.val) k).1)
    (h2 : s.2 (ix2 r l) = (((Spec.best a (128 * r.val + l.val) k).2 : ℝ) : EReal)) :
    (better x (k + 1) h b s).1 (ix2 r l) = (Spec.best a (128 * r.val + l.val) (k + 1)).1 ∧
    (better x (k + 1) h b s).2 (ix2 r l) = (((Spec.best a (128 * r.val + l.val) (k + 1)).2 : ℝ) : EReal) := by
  unfold better Spec.best
  simp only [select_apply, cmpf_apply, select_ogt, conf_apply hx, h1, h2]
  have hb' : (splat (F := Ideal) S160x128 b) (ix2 r l) = (((k + 1 : ℕ) : ℝ) : EReal) := hb
  rw [hb']
  split <;> simp

theorem best_apply (hx : Holds a x) (r : Fin 160) (l : Fin 128) :
    (best x).1 (ix2 r l) = Spec.prob a (128 * r.val + l.val) ∧
    (best x).2 (ix2 r l) = ((Spec.cls a (128 * r.val + l.val) : ℝ) : EReal) := by
  have h0 : conf x 0 (by decide) (ix2 r l) = (Spec.best a (128 * r.val + l.val) 0).1 ∧
      (splat (F := Ideal) S160x128 0x00000000#32) (ix2 r l) = (((Spec.best a (128 * r.val + l.val) 0).2 : ℝ) : EReal) := by
    refine ⟨conf_apply hx 0 _ r l, ?_⟩
    show Ideal.ofBits .f32 0x00000000#32 = _
    rw [Ideal.ofBits_zero_f32]; simp [Spec.best]
  have h1 := better_apply hx 0 (by decide) 0x3F800000#32 (by simp) (conf x 0 (by decide), splat S160x128 0x00000000#32) r l h0.1 h0.2
  have h2 := better_apply hx 1 (by decide) 0x40000000#32 (by rw [Spec.const_two]; norm_num) _ r l h1.1 h1.2
  have h3 := better_apply hx 2 (by decide) 0x40400000#32 (by rw [Spec.const_three]; norm_num) _ r l h2.1 h2.2
  have h4 := better_apply hx 3 (by decide) 0x40800000#32 (by rw [Spec.const_four]; norm_num) _ r l h3.1 h3.2
  have h5 := better_apply hx 4 (by decide) 0x40A00000#32 (by rw [Spec.const_five]; norm_num) _ r l h4.1 h4.2
  have h6 := better_apply hx 5 (by decide) 0x40C00000#32 (by rw [Spec.const_six]; norm_num) _ r l h5.1 h5.2
  have h7 := better_apply hx 6 (by decide) 0x40E00000#32 (by rw [Spec.const_seven]; norm_num) _ r l h6.1 h6.2
  exact better_apply hx 7 (by decide) 0x41000000#32 (by rw [Spec.const_eight]; norm_num) _ r l h7.1 h7.2

theorem score_apply (hx : Holds a x) (r : Fin 160) (l : Fin 128) :
    score x (ix2 r l) = Spec.score a (128 * r.val + l.val) := by
  unfold score Spec.score
  rw [select_apply, cmpf_apply, select_ogt, (best_apply hx r l).1]
  rfl

theorem low_apply (hx : Holds a x) (c : ℕ) (hc : c < 2) (r : Fin 160) (l : Fin 128) :
    low x c (c + 2) (by omega) (by omega) (ix2 r l) = Spec.corner a (128 * r.val + l.val) c := by
  unfold low Spec.corner
  rw [subf_apply, mulf_apply, plane_apply hx, plane_apply hx, if_pos hc, Spec.div_two]
  rfl

theorem high_apply (hx : Holds a x) (c : ℕ) (hc : c < 2) (r : Fin 160) (l : Fin 128) :
    high x c (c + 2) (by omega) (by omega) (ix2 r l) = Spec.corner a (128 * r.val + l.val) (c + 2) := by
  unfold high Spec.corner
  rw [addf_apply, mulf_apply, plane_apply hx, plane_apply hx, if_neg (by omega), Spec.div_two]
  rfl

end Cert.Proof.Planes

end
-- ==== Proof.Selecting.lean ====
/- The kernel's selection takes the anchors in the mathematics' order. -/
module

public import proofs.«01_k».proof.Proof.Planes

@[expose] public section

noncomputable section

namespace Cert.Proof.Selecting

open Cert.KernelIdeal Cert.KernelIdeal.Gen
open Cert.Proof.Image Cert.Proof.Planes
open Idealize.ShloMosaic Idealize.ShloMosaic.TcCoe Idealize.ShloMosaic.ValueIdx

theorem unit_eq (i j : S1.Idx) : i = j := by
  funext d; match d with | ⟨0, _⟩ => exact Subsingleton.elim (α := Fin 1) _ _

theorem unit_cast (v : S1.Idx → EReal) (h : S1.ShapeCasts S1x1x1) (i : S1x1x1.Idx) : shapeCast S1x1x1 v h i = v (ix1 0) := by
  unfold shapeCast
  exact congrArg v (unit_eq _ _)

theorem split3 {n0 n1 n2 : ℕ} (i : (⟨3, ![n0, n1, n2]⟩ : Shape).Idx) : ∃ (u : Fin n0) (r : Fin n1) (l : Fin n2), i = ix3 u r l :=
  ⟨i 0, i 1, i 2, eq_ix3 i⟩

/-- The greatest of a whole plane. -/
theorem fold_max_all {ι : Type} [Fintype ι] (p : ι → Prop) [DecidablePred p] (f : ι → EReal) (m : EReal) (hp : ∀ i, p i)
    (hle : ∀ i, f i ≤ m) (i₀ : ι) (h0 : f i₀ = m) : (Finset.univ.filter p).fold max ⊥ f = m := by
  refine le_antisymm (Finset.fold_max_le _ |>.mpr ⟨bot_le, fun i _ => hle i⟩) ?_
  exact Finset.le_fold_max _ |>.mpr (.inr ⟨i₀, by simp [hp], h0.ge⟩)

theorem fold_min_all {ι : Type} [Fintype ι] (p : ι → Prop) [DecidablePred p] (f : ι → EReal) (m : EReal) (hp : ∀ i, p i)
    (hle : ∀ i, m ≤ f i) (i₀ : ι) (h0 : f i₀ = m) : (Finset.univ.filter p).fold min ⊤ f = m := by
  refine le_antisymm ?_ (Finset.le_fold_min _ |>.mpr ⟨le_top, fun i _ => hle i⟩)
  exact Finset.fold_min_le _ |>.mpr (.inr ⟨i₀, by simp [hp], h0.le⟩)

theorem top_eq (s : FVec Ideal S160x128 .f32) (m : EReal) (hle : ∀ r l, s (ix2 r l) ≤ m) (r : Fin 160) (l : Fin 128)
    (h0 : s (ix2 r l) = m) : top s = m := by
  unfold top extractAt
  rw [unit_cast]
  refine (multiReduction_maximumf_eq_fold _ _ _ _ _ _).trans ?_
  have hb : (FloatOps.ofBits (F := Ideal) .f32 0xFF800000#32) = (⊥ : EReal) := Spec.const_bot
  rw [hb]
  refine fold_max_all _ _ m (fun i => unit_eq _ _) (fun i => ?_) (ix3 0 r l) ?_
  · obtain ⟨u, r, l, rfl⟩ := split3 i
    rw [shapeCast_ab_1ab_apply]; exact hle _ _
  · rw [shapeCast_ab_1ab_apply]; exact h0

theorem pick_eq (q s : FVec Ideal S160x128 .f32) (m n : EReal) (ht : top s = m)
    (hle : ∀ r l, s (ix2 r l) = m → n ≤ q (ix2 r l)) (hn : n ≤ ((30000000 : ℝ) : EReal)) (r : Fin 160) (l : Fin 128)
    (h0 : s (ix2 r l) = m) (h1 : q (ix2 r l) = n) : pick q s = n := by
  unfold pick extractAt
  rw [unit_cast]
  refine (multiReduction_minimumf_eq_fold _ _ _ _ _ _).trans ?_
  have hb : (FloatOps.ofBits (F := Ideal) .f32 0x7F800000#32) = (⊤ : EReal) := Spec.const_top
  rw [hb, ht]
  refine fold_min_all _ _ n (fun i => unit_eq _ _) (fun i => ?_) (ix3 0 r l) ?_
  · obtain ⟨u, r, l, rfl⟩ := split3 i
    rw [shapeCast_ab_1ab_apply, select_apply, cmpf_apply, select_oeq]
    split
    · next h => exact hle _ _ h
    · exact hn.trans_eq Spec.const_far.symm
  · rw [shapeCast_ab_1ab_apply, select_apply, cmpf_apply, select_oeq, if_pos (by exact h0)]
    exact h1

theorem lanes_apply (j : Fin 384) : lanes (F := Ideal) (ix2 0 j) = ((j.val : ℝ) : EReal) := by
  show FloatOps.sitofp (F := Ideal) .f32 (BitVec.ofNat 32 (0 * 384 + j.val)) = _
  rw [float_word _ (by omega)]; simp

theorem places_apply (r : Fin 160) (l : Fin 128) : places (F := Ideal) (ix2 r l) = (((128 * r.val + l.val : ℕ) : ℝ) : EReal) := by
  show FloatOps.sitofp (F := Ideal) .f32 (BitVec.ofNat 32 (0 * 160 + r.val)) * Ideal.ofBits .f32 0x43000000#32
    + FloatOps.sitofp (F := Ideal) .f32 (BitVec.ofNat 32 (0 * 128 + l.val)) = _
  rw [float_word _ (by omega), float_word _ (by omega), Spec.const_128, ← EReal.coe_mul, ← EReal.coe_add]
  congr 1
  push_cast; ring

variable {a : ℕ → ℕ → EReal}

theorem score_ge (n : ℕ) : ((-1 : ℝ) : EReal) ≤ Spec.score a n := by
  unfold Spec.score
  split
  · next h =>
    refine le_trans ?_ h.le
    rw [Spec.quarter, Spec.const_quarter, EReal.coe_le_coe_iff]; norm_num
  · rw [Spec.const_neg_one]

theorem score_pad (ha : ∀ n, 20000 ≤ n → ∀ i, a n i = 0) (n : ℕ) (hn : 20000 ≤ n) : Spec.score a n = ((-1 : ℝ) : EReal) := by
  have hb : ∀ k, Spec.best a n k = (0, 0) := by
    intro k
    induction k with
    | zero => simp [Spec.best, Spec.conf, ha n hn]
    | succ k ih => simp [Spec.best, ih, Spec.conf, ha n hn]
  unfold Spec.score Spec.prob
  rw [hb, if_neg, Spec.const_neg_one]
  rw [Spec.quarter, Spec.const_quarter, not_lt]
  exact EReal.coe_nonneg.mpr (by norm_num)

/-- The place of a number. -/
theorem place_split (n : ℕ) (hn : n < 20480) : ∃ (r : Fin 160) (l : Fin 128), 128 * r.val + l.val = n :=
  ⟨⟨n / 128, by omega⟩, ⟨n % 128, by omega⟩, by simp only; omega⟩

open Classical in
/-- Before trip `k`: the scores left, and the picks written down. -/
structure Before (a : ℕ → ℕ → EReal) (k : ℕ) (p : Picks Ideal) : Prop where
  left : ∀ r l, p.1 (ix2 r l) = if ∃ u < k, Spec.ranked a u = 128 * r.val + l.val then ((-2 : ℝ) : EReal)
    else Spec.score a (128 * r.val + l.val)
  row : ∀ j : Fin 384, p.2.1 (ix2 0 j) = if j.val < k then (((Spec.ranked a j.val / 128 : ℕ) : ℝ) : EReal) else 0
  col : ∀ j : Fin 384, p.2.2.1 (ix2 0 j) = if j.val < k then (((Spec.ranked a j.val % 128 : ℕ) : ℝ) : EReal) else 0
  sc : ∀ j : Fin 384, p.2.2.2 (ix2 0 j) = if j.val < k then Spec.score a (Spec.ranked a j.val) else ((-2 : ℝ) : EReal)

theorem neg_two_lt (n : ℕ) : ((-2 : ℝ) : EReal) < Spec.score a n :=
  lt_of_lt_of_le (by rw [EReal.coe_lt_coe_iff]; norm_num) (score_ge n)

theorem left_le (ha : ∀ n, 20000 ≤ n → ∀ i, a n i = 0) {k : ℕ} (hk : k < 300) {p : Picks Ideal} (hp : Before a k p) (r : Fin 160) (l : Fin 128) :
    p.1 (ix2 r l) ≤ Spec.score a (Spec.ranked a k) ∧
      (p.1 (ix2 r l) = Spec.score a (Spec.ranked a k) → Spec.ranked a k ≤ 128 * r.val + l.val) := by
  rw [hp.left]
  split
  · exact ⟨(neg_two_lt _).le, fun h => absurd h (neg_two_lt _).ne⟩
  · next h =>
    by_cases hn : 128 * r.val + l.val < 20000
    · exact Spec.ranked_best a (by omega) hn fun u hu e => h ⟨u, hu, e⟩
    · refine ⟨?_, fun _ => ?_⟩
      · rw [score_pad ha _ (by omega)]; exact score_ge _
      · have := Spec.ranked_lt a k; omega

theorem left_own {k : ℕ} (hk : k < 300) {p : Picks Ideal} (hp : Before a k p) (r : Fin 160) (l : Fin 128)
    (h : 128 * r.val + l.val = Spec.ranked a k) : p.1 (ix2 r l) = Spec.score a (Spec.ranked a k) := by
  rw [hp.left, h, if_neg]
  rintro ⟨u, hu, e⟩
  have := Spec.ranked_inj a (by omega) (by omega) e
  omega

theorem top_at (ha : ∀ n, 20000 ≤ n → ∀ i, a n i = 0) {k : ℕ} (hk : k < 300) {p : Picks Ideal} (hp : Before a k p) :
    top p.1 = Spec.score a (Spec.ranked a k) := by
  obtain ⟨r, l, h⟩ := place_split (Spec.ranked a k) (by have := Spec.ranked_lt a k; omega)
  exact top_eq _ _ (fun r l => (left_le ha hk hp r l).1) r l (left_own hk hp r l h)

theorem pick_at (ha : ∀ n, 20000 ≤ n → ∀ i, a n i = 0) {k : ℕ} (hk : k < 300) {p : Picks Ideal} (hp : Before a k p) :
    pick places p.1 = ((Spec.ranked a k : ℝ) : EReal) := by
  have hlt := Spec.ranked_lt a k
  obtain ⟨r, l, h⟩ := place_split (Spec.ranked a k) (by omega)
  refine pick_eq _ _ _ _ (top_at ha hk hp) (fun r l e => ?_) ?_ r l (left_own hk hp r l h) ?_
  · rw [places_apply, EReal.coe_le_coe_iff, Nat.cast_le]
    exact (left_le ha hk hp r l).2 e
  · rw [EReal.coe_le_coe_iff]
    have : (Spec.ranked a k : ℝ) ≤ 20000 := by exact_mod_cast hlt.le
    linarith
  · rw [places_apply, h]

theorem floor_128 (n : ℕ) : (⌊(n : ℝ) * (1 / 128)⌋ : ℤ) = ((n / 128 : ℕ) : ℤ) := by
  rw [Int.floor_eq_iff]
  have h1 : (((n / 128 : ℕ) : ℝ)) * 128 ≤ (n : ℝ) := by exact_mod_cast Nat.div_mul_le_self n 128
  have h2 : (n : ℝ) < (((n / 128 : ℕ) : ℝ)) * 128 + 128 := by
    have : n < (n / 128) * 128 + 128 := by omega
    exact_mod_cast this
  rw [Int.cast_natCast]
  constructor <;> linarith

theorem row_at (ha : ∀ n, 20000 ≤ n → ∀ i, a n i = 0) {k : ℕ} (hk : k < 300) {p : Picks Ideal} (hp : Before a k p) :
    pickRow places p.1 = (((Spec.ranked a k / 128 : ℕ) : ℝ) : EReal) := by
  unfold pickRow
  rw [pick_at ha hk hp]
  show Ideal.liftRound Int.floor (((Spec.ranked a k : ℝ) : EReal) * Ideal.ofBits .f32 0x3C000000#32) = _
  rw [Spec.const_128th, ← EReal.coe_mul]
  show (((⌊(Spec.ranked a k : ℝ) * (1 / 128)⌋ : ℤ) : ℝ) : EReal) = _
  rw [floor_128, Int.cast_natCast]

theorem col_at (ha : ∀ n, 20000 ≤ n → ∀ i, a n i = 0) {k : ℕ} (hk : k < 300) {p : Picks Ideal} (hp : Before a k p) :
    pickCol places p.1 = (((Spec.ranked a k % 128 : ℕ) : ℝ) : EReal) := by
  unfold pickCol
  rw [pick_at ha hk hp, row_at ha hk hp]
  show ((Spec.ranked a k : ℝ) : EReal) - (((Spec.ranked a k / 128 : ℕ) : ℝ) : EReal) * Ideal.ofBits .f32 0x43000000#32 = _
  rw [Spec.const_128, ← EReal.coe_mul, ← EReal.coe_sub]
  congr 1
  have h : (Spec.ranked a k : ℝ) = 128 * ((Spec.ranked a k / 128 : ℕ) : ℝ) + ((Spec.ranked a k % 128 : ℕ) : ℝ) := by
    exact_mod_cast (Nat.div_add_mod (Spec.ranked a k) 128).symm
  linarith

theorem atTrip_apply {α : Type} (k : ℕ) (hk : k < 300) (j : Fin 384) (p q : α) :
    Scalar.select (atTrip (F := Ideal) lanes k (ix2 0 j)) p q = if j.val = k then p else q := by
  unfold atTrip
  rw [cmpf_apply, select_oeq, lanes_apply]
  have : (Scalar.sitofp (F := Ideal) .f32 (Scf.iv 0#32 1#32 k) : EReal) = ((k : ℝ) : EReal) := by
    have h : Scf.iv 0#32 1#32 k = BitVec.ofNat 32 k := by simp [Scf.iv]
    rw [h]; exact float_word k (by omega)
  rw [broadcast_apply, this]
  simp

theorem take_before (ha : ∀ n, 20000 ≤ n → ∀ i, a n i = 0) {k : ℕ} (hk : k < 300) {p : Picks Ideal} (hp : Before a k p) :
    Before a (k + 1) (take lanes places k p) where
  left r l := by
    dsimp only [take]
    have hs : (splat (F := Ideal) S160x128 0xC0000000#32) (ix2 r l) = Ideal.ofBits .f32 0xC0000000#32 := rfl
    rw [select_apply, cmpf_apply, broadcast_apply, select_oeq, hs, pick_at ha hk hp, places_apply, hp.left, Spec.const_neg_two]
    by_cases h : 128 * r.val + l.val = Spec.ranked a k
    · rw [if_pos (by rw [h]), if_pos ⟨k, by omega, h.symm⟩]
    · rw [if_neg (by intro e; exact h (by exact_mod_cast e))]
      refine if_congr ?_ rfl rfl
      constructor
      · rintro ⟨u, hu, e⟩; exact ⟨u, by omega, e⟩
      · rintro ⟨u, hu, e⟩
        refine ⟨u, ?_, e⟩
        rcases Nat.lt_succ_iff_lt_or_eq.mp hu with h' | rfl
        · exact h'
        · exact absurd e.symm h
  row j := by
    dsimp only [take]
    rw [select_apply, broadcast_apply, atTrip_apply k hk, row_at ha hk hp, hp.row]
    split_ifs <;> first | rfl | omega | (subst_vars; rfl)
  col j := by
    dsimp only [take]
    rw [select_apply, broadcast_apply, atTrip_apply k hk, col_at ha hk hp, hp.col]
    split_ifs <;> first | rfl | omega | (subst_vars; rfl)
  sc j := by
    dsimp only [take]
    rw [select_apply, broadcast_apply, atTrip_apply k hk, top_at ha hk hp, hp.sc]
    split_ifs <;> first | rfl | omega | (subst_vars; rfl)

theorem picks_before (ha : ∀ n, 20000 ≤ n → ∀ i, a n i = 0) {x : FVec Ideal S14x160x128 .f32} (hx : Holds a x) (k : ℕ) (hk : k ≤ 300) :
    Before a k (picks lanes places (score x) k) := by
  induction k with
  | zero =>
    refine ⟨fun r l => ?_, fun j => ?_, fun j => ?_, fun j => ?_⟩
    · rw [if_neg (by rintro ⟨u, hu, -⟩; omega)]; exact score_apply hx r l
    · rw [if_neg (by omega)]; exact Ideal.ofBits_zero_f32
    · rw [if_neg (by omega)]; exact Ideal.ofBits_zero_f32
    · rw [if_neg (by omega)]; exact Spec.const_neg_two
  | succ k ih => exact take_before ha (by omega) (ih (by omega))

end Cert.Proof.Selecting

end
-- ==== Proof.Gathering.lean ====
/- The kernel's reads of the picked anchors: a product with one-hot matrices is the field at the pick. -/
module

public import proofs.«01_k».proof.Proof.Selecting
public import Idealize.ShloMosaic.Lib.Pipeline.Value

@[expose] public section

noncomputable section

namespace Cert.Proof.Gathering

open Cert.KernelIdeal Cert.KernelIdeal.Gen
open Cert.Proof.Image Cert.Proof.Planes Cert.Proof.Selecting
open Idealize.ShloMosaic Idealize.ShloMosaic.TcCoe Idealize.ShloMosaic.ValueIdx
open scoped BigOperators

/-! ## The four products at an index -/

theorem matmul_cols {φ₁ φ₂ : FTy} (lhs : FVec Ideal S160x640 φ₁) (rhs : FVec Ideal S160x384 φ₂) (m : Fin 640) (j : Fin 384) :
    matmul dot_S160x640_S160x384_S640x384_0_0_1_1_n_n (some .fp32) lhs rhs (constant S640x384 .f32 0x00000000#32) (ix2 m j)
      = ∑ k : Fin 160, lhs (ix2 k m) * rhs (ix2 k j) := by
  simp only [matmul]
  rw [Ideal.matmul_constant_zero_apply,
    ← Equiv.sum_comp (contrEquiv1 dot_S160x640_S160x384_S640x384_0_0_1_1_n_n 160 rfl rfl).symm]
  refine Finset.sum_congr rfl fun k _ => ?_
  have hk := contrEquiv1_symm_val dot_S160x640_S160x384_S640x384_0_0_1_1_n_n 160 rfl rfl k
  congr 2
  · funext a; apply Fin.ext
    match a with
    | ⟨0, _⟩ => exact hk
    | ⟨1, _⟩ => rfl
  · funext a; apply Fin.ext
    match a with
    | ⟨0, _⟩ => exact hk
    | ⟨1, _⟩ => rfl

theorem matmul_stand {φ₁ φ₂ : FTy} (lhs : FVec Ideal S384x384 φ₁) (rhs : FVec Ideal S1x384 φ₂) (i : Fin 384) (u : Fin 1) :
    matmul dot_S384x384_S1x384_S384x1_1_1_0_0_n_n (some .fp32) lhs rhs (constant S384x1 .f32 0x00000000#32) (ix2 i u)
      = ∑ k : Fin 384, lhs (ix2 i k) * rhs (ix2 0 k) := by
  simp only [matmul]
  rw [Ideal.matmul_constant_zero_apply,
    ← Equiv.sum_comp (contrEquiv1 dot_S384x384_S1x384_S384x1_1_1_0_0_n_n 384 rfl rfl).symm]
  refine Finset.sum_congr rfl fun k _ => ?_
  have hk := contrEquiv1_symm_val dot_S384x384_S1x384_S384x1_1_1_0_0_n_n 384 rfl rfl k
  congr 2
  · funext a; apply Fin.ext
    match a with
    | ⟨0, _⟩ => rfl
    | ⟨1, _⟩ => exact hk
  · funext a; apply Fin.ext
    match a with
    | ⟨0, _⟩ => show u.val = 0; omega
    | ⟨1, _⟩ => exact hk

theorem matmul_rows {φ₁ φ₂ : FTy} (lhs : FVec Ideal S1x384 φ₁) (rhs : FVec Ideal S384x384 φ₂) (j : Fin 384) :
    matmul dot_S1x384_S384x384_S1x384_1_0_0_1_n_n (some .fp32) lhs rhs (constant S1x384 .f32 0x00000000#32) (ix2 0 j)
      = ∑ k : Fin 384, lhs (ix2 0 k) * rhs (ix2 k j) := by
  simp only [matmul]
  rw [Ideal.matmul_constant_zero_apply,
    ← Equiv.sum_comp (contrEquiv1 dot_S1x384_S384x384_S1x384_1_0_0_1_n_n 384 rfl rfl).symm]
  refine Finset.sum_congr rfl fun k _ => ?_
  have hk := contrEquiv1_symm_val dot_S1x384_S384x384_S1x384_1_0_0_1_n_n 384 rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

theorem matmul_slots {φ₁ φ₂ : FTy} (lhs : FVec Ideal S20x384 φ₁) (rhs : FVec Ideal S1x384 φ₂) (e : Fin 20) (u : Fin 1) :
    matmul dot_S20x384_S1x384_S20x1_1_1_0_0_n_n (some .fp32) lhs rhs (constant S20x1 .f32 0x00000000#32) (ix2 e u)
      = ∑ k : Fin 384, lhs (ix2 e k) * rhs (ix2 0 k) := by
  simp only [matmul]
  rw [Ideal.matmul_constant_zero_apply,
    ← Equiv.sum_comp (contrEquiv1 dot_S20x384_S1x384_S20x1_1_1_0_0_n_n 384 rfl rfl).symm]
  refine Finset.sum_congr rfl fun k _ => ?_
  have hk := contrEquiv1_symm_val dot_S20x384_S1x384_S20x1_1_1_0_0_n_n 384 rfl rfl k
  congr 2
  · funext a; apply Fin.ext
    match a with
    | ⟨0, _⟩ => rfl
    | ⟨1, _⟩ => exact hk
  · funext a; apply Fin.ext
    match a with
    | ⟨0, _⟩ => show u.val = 0; omega
    | ⟨1, _⟩ => exact hk

/-! ## One-hot sums -/

open Classical in
/-- One where a proposition holds, zero elsewhere. -/
def hot (p : Prop) : EReal := if p then 1 else 0

theorem hot_pos {p : Prop} (h : p) : hot p = 1 := if_pos h
theorem hot_neg {p : Prop} (h : ¬p) : hot p = 0 := if_neg h

theorem float_hot (b : Bool) : (FloatOps.sitofp (F := Ideal) .f32 ((BitVec.ofBool b).setWidth 32) : EReal) = hot (b = true) := by
  rw [float_bit]; cases b <;> simp [hot]

theorem float_oeq (x y : EReal) :
    (FloatOps.sitofp (F := Ideal) .f32 ((FloatOps.cmpf (F := Ideal) (φ := .f32) .oeq x y).setWidth 32) : EReal) = hot (x = y) := by
  rw [Ideal.cmpf_def]; unfold Ideal.cmp
  rw [float_hot]; simp

theorem sum_hot {n : ℕ} (f : Fin n → EReal) (k : Fin n) : ∑ i : Fin n, f i * hot (((i.val : ℝ) : EReal) = ((k.val : ℝ) : EReal)) = f k := by
  rw [Finset.sum_eq_single k]
  · rw [hot_pos rfl, mul_one]
  · intro i _ hik
    have : ¬ ((i.val : ℝ) : EReal) = ((k.val : ℝ) : EReal) := by
      intro h; exact hik (Fin.ext (by exact_mod_cast h))
    rw [hot_neg this, mul_zero]
  · intro h; exact absurd (Finset.mem_univ k) h

theorem rowsHot_apply (r : FVec Ideal S1x384 .f32) (i : Fin 160) (j : Fin 384) :
    rowsHot r (ix2 i j) = hot (((i.val : ℝ) : EReal) = r (ix2 0 j)) := by
  have h : FloatOps.sitofp (F := Ideal) .f32 (BitVec.ofNat 32 (0 * 160 + i.val)) = ((i.val : ℝ) : EReal) := by
    rw [float_word _ (by omega)]; simp
  rw [← h]
  refine (float_oeq _ _).trans ?_
  congr 2
  show r _ = r _
  congr 1
  funext a
  match a with
  | ⟨0, _⟩ => rfl
  | ⟨1, _⟩ => rfl

theorem colsHot_apply (c : FVec Ideal S1x384 .f32) (i : Fin 128) (j : Fin 384) :
    colsHot c (ix2 i j) = hot (((i.val : ℝ) : EReal) = c (ix2 0 j)) := by
  have h : FloatOps.sitofp (F := Ideal) .f32 (BitVec.ofNat 32 (0 * 128 + i.val)) = ((i.val : ℝ) : EReal) := by
    rw [float_word _ (by omega)]; simp
  rw [← h]
  refine (float_oeq _ _).trans ?_
  congr 2
  show c _ = c _
  congr 1
  funext a
  match a with
  | ⟨0, _⟩ => rfl
  | ⟨1, _⟩ => rfl

/-- Field `f` of the five, at a pick in row `R` and column `C`. -/
theorem field_apply (a b c d e : FVec Ideal S160x128 .f32) (r q : FVec Ideal S1x384 .f32) (j : Fin 384) (R : Fin 160) (C : Fin 128)
    (hr : r (ix2 0 j) = ((R.val : ℝ) : EReal)) (hq : q (ix2 0 j) = ((C.val : ℝ) : EReal))
    (f : Fin 5) (v : FVec Ideal S160x128 .f32) (hv : ([a, b, c, d, e] : List (FVec Ideal S160x128 .f32))[f.val]'f.isLt = v)
    (o : ℕ) (ho : o = 128 * f.val) (h : o + 128 ≤ 640) :
    field (fields a b c d e r) q o h (ix2 0 j) = v (ix2 R C) := by
  subst ho
  unfold field
  rw [shapeCast_a_1a_apply]
  refine (Ideal.multiReduction_add_single _ _ _ _ _ _).trans ?_
  have hterm : ∀ k : Fin 128, (mulf (extractStridedSlice S128x384 ![128 * f.val, 0] (fields a b c d e r) (field_slices _ h)) (colsHot q))
      (reduces_S128x384_S384.lift (ix1 j) k) = v (ix2 R k) * hot (((k.val : ℝ) : EReal) = ((C.val : ℝ) : EReal)) := by
    intro k
    have hl : reduces_S128x384_S384.lift (ix1 j) k = ix2 k j := by
      funext a
      match a with
      | ⟨0, _⟩ => rfl
      | ⟨1, _⟩ => rfl
    rw [hl, mulf_apply, colsHot_apply, hq]
    congr 1
    have hs : extractStridedSlice S128x384 ![128 * f.val, 0] (fields a b c d e r) (field_slices _ h) (ix2 k j)
        = fields a b c d e r (ix2 ⟨128 * f.val + k.val, by omega⟩ j) := by
      show fields a b c d e r _ = _
      congr 1
      funext x
      match x with
      | ⟨0, _⟩ => rfl
      | ⟨1, _⟩ => exact Fin.ext (by show 0 + j.val = j.val; omega)
    rw [hs]
    unfold fields
    rw [matmul_cols]
    have hc : ∀ i : Fin 160, (concatenate S160x640 1 [⟨S160x128, a⟩, ⟨S160x128, b⟩, ⟨S160x128, c⟩, ⟨S160x128, d⟩, ⟨S160x128, e⟩]
        concatenates_S160x128_S160x128_S160x128_S160x128_S160x128_S160x640_d1) (ix2 i ⟨128 * f.val + k.val, by omega⟩) = v (ix2 i k) := by
      intro i
      refine concatenate_apply_piece (α := EReal) (t := S160x640) 1 _ _ _ f.val (by exact f.isLt) S160x128 v ?_ rfl (128 * f.val) ?_ (ix2 i k) ?_ ?_
      · fin_cases f <;> (subst hv; rfl)
      · fin_cases f <;> rfl
      · intro b hb
        match b with
        | ⟨0, _⟩ => rfl
        | ⟨1, _⟩ => exact absurd rfl hb
      · rfl
    simp only [hc, rowsHot_apply, hr]
    exact sum_hot (fun i => v (ix2 i k)) R
  refine (Finset.sum_congr rfl fun k _ => hterm k).trans ?_
  exact sum_hot (fun k => v (ix2 R k)) C

/-! ## The candidates -/

/-- The anchor at a lane: the pick's, and anchor zero past the picks. -/
def at_ (a : ℕ → ℕ → EReal) (j : ℕ) : ℕ := if j < 300 then Spec.ranked a j else 0

variable {a : ℕ → ℕ → EReal} {x : FVec Ideal S14x160x128 .f32}

/-- What the candidates hold. -/
structure Has (a : ℕ → ℕ → EReal) (k : Cand Ideal) : Prop where
  x1 : ∀ j : Fin 384, k.x1 (ix2 0 j) = Spec.corner a (at_ a j.val) 0
  y1 : ∀ j : Fin 384, k.y1 (ix2 0 j) = Spec.corner a (at_ a j.val) 1
  x2 : ∀ j : Fin 384, k.x2 (ix2 0 j) = Spec.corner a (at_ a j.val) 2
  y2 : ∀ j : Fin 384, k.y2 (ix2 0 j) = Spec.corner a (at_ a j.val) 3
  cls : ∀ j : Fin 384, k.cls (ix2 0 j) = ((Spec.cls a (at_ a j.val) : ℝ) : EReal)
  sc : ∀ j : Fin 384, k.sc (ix2 0 j) = if j.val < 300 then Spec.score a (Spec.ranked a j.val) else ((-2 : ℝ) : EReal)

theorem at_place (p : Picks Ideal) (hp : Before a 300 p) (j : Fin 384) : ∃ (R : Fin 160) (C : Fin 128),
    p.2.1 (ix2 0 j) = ((R.val : ℝ) : EReal) ∧ p.2.2.1 (ix2 0 j) = ((C.val : ℝ) : EReal) ∧ 128 * R.val + C.val = at_ a j.val := by
  rw [hp.row, hp.col]
  unfold at_
  split
  · have := Spec.ranked_lt a j.val
    exact ⟨⟨Spec.ranked a j.val / 128, by omega⟩, ⟨Spec.ranked a j.val % 128, by omega⟩, rfl, rfl, Nat.div_add_mod _ _⟩
  · exact ⟨0, 0, by simp, by simp, rfl⟩

theorem cand_has (hx : Holds a x) (p : Picks Ideal) (hp : Before a 300 p) : Has a (cand x p) where
  x1 j := by
    obtain ⟨R, C, hr, hc, e⟩ := at_place p hp j
    rw [← e, ← low_apply hx 0 (by decide)]
    exact field_apply _ _ _ _ _ _ _ j R C hr hc 0 _ rfl 0 rfl (by decide)
  y1 j := by
    obtain ⟨R, C, hr, hc, e⟩ := at_place p hp j
    rw [← e, ← low_apply hx 1 (by decide)]
    exact field_apply _ _ _ _ _ _ _ j R C hr hc 1 _ rfl 128 rfl (by decide)
  x2 j := by
    obtain ⟨R, C, hr, hc, e⟩ := at_place p hp j
    rw [← e, ← high_apply hx 0 (by decide)]
    exact field_apply _ _ _ _ _ _ _ j R C hr hc 2 _ rfl 256 rfl (by decide)
  y2 j := by
    obtain ⟨R, C, hr, hc, e⟩ := at_place p hp j
    rw [← e, ← high_apply hx 1 (by decide)]
    exact field_apply _ _ _ _ _ _ _ j R C hr hc 3 _ rfl 384 rfl (by decide)
  cls j := by
    obtain ⟨R, C, hr, hc, e⟩ := at_place p hp j
    rw [← e, ← (best_apply hx R C).2]
    exact field_apply _ _ _ _ _ _ _ j R C hr hc 4 _ rfl 512 rfl (by decide)
  sc j := hp.sc j

end Cert.Proof.Gathering

end
-- ==== Proof.Overlapping.lean ====
/- The kernel's overlaps, suppression and packing at an index. -/
module

public import proofs.«01_k».proof.Proof.Gathering

@[expose] public section

noncomputable section

namespace Cert.Proof.Overlapping

open Cert.KernelIdeal Cert.KernelIdeal.Gen
open Cert.Proof.Image Cert.Proof.Planes Cert.Proof.Selecting Cert.Proof.Gathering
open Idealize.ShloMosaic Idealize.ShloMosaic.TcCoe Idealize.ShloMosaic.ValueIdx
open scoped BigOperators

/-! ## The overlaps -/

theorem down_apply (i j : Fin 384) : down (F := Ideal) (ix2 i j) = ((i.val : ℝ) : EReal) := by
  show FloatOps.sitofp (F := Ideal) .f32 (BitVec.ofNat 32 (0 * 384 + i.val)) = _
  rw [float_word _ (by omega)]; simp

theorem across_apply (i j : Fin 384) : across (F := Ideal) (ix2 i j) = ((j.val : ℝ) : EReal) := by
  show FloatOps.sitofp (F := Ideal) .f32 (BitVec.ofNat 32 (0 * 384 + j.val)) = _
  rw [float_word _ (by omega)]; simp

theorem ident_apply (i j : Fin 384) : ident (F := Ideal) (ix2 i j) = hot (((j.val : ℝ) : EReal) = ((i.val : ℝ) : EReal)) := by
  refine (float_oeq _ _).trans ?_
  rw [down_apply, across_apply]
  exact congrArg hot (propext eq_comm)

theorem upper_apply (i j : Fin 384) : upper (F := Ideal) (ix2 i j) = hot (i.val ≤ j.val) := by
  show (FloatOps.sitofp (F := Ideal) .f32 ((FloatOps.cmpf (F := Ideal) (φ := .f32) .ole (down (F := Ideal) (ix2 i j))
    (across (F := Ideal) (ix2 i j))).setWidth 32) : EReal) = _
  rw [Ideal.cmpf_def]; unfold Ideal.cmp
  rw [float_hot, down_apply, across_apply]
  simp

theorem stood_apply (v : FVec Ideal S1x384 .f32) (i j : Fin 384) : stood v (ix2 i j) = v (ix2 0 i) := by
  have h : stood v (ix2 i j) = matmul dot_S384x384_S1x384_S384x1_1_1_0_0_n_n (some .fp32) ident v (constant S384x1 .f32 0x00000000#32)
      (ix2 i 0) := by
    unfold stood
    generalize matmul dot_S384x384_S1x384_S384x1_1_1_0_0_n_n (some .fp32) ident v (constant S384x1 .f32 0x00000000#32) = y
    show y _ = y _
    congr 1
    funext a
    match a with
    | ⟨0, _⟩ => rfl
    | ⟨1, _⟩ => rfl
  rw [h, matmul_stand]
  simp only [ident_apply, mul_comm (hot _)]
  exact sum_hot (fun k => v (ix2 0 k)) i

theorem laid_apply (v : FVec Ideal S1x384 .f32) (i j : Fin 384) : laid v (ix2 i j) = v (ix2 0 j) := by
  show v _ = v _
  congr 1
  funext a
  match a with
  | ⟨0, _⟩ => rfl
  | ⟨1, _⟩ => rfl

variable {a : ℕ → ℕ → EReal}

theorem moved_apply (c v : FVec Ideal S1x384 .f32) (k : ℕ) (i : Fin 384) (hi : i.val < 300)
    (hc : c (ix2 0 i) = ((Spec.cls a (at_ a i.val) : ℝ) : EReal)) (hv : v (ix2 0 i) = Spec.corner a (at_ a i.val) k) :
    moved c v (ix2 0 i) = Spec.moved a i.val k := by
  unfold moved Spec.moved
  rw [addf_apply, mulf_apply, hc, hv]
  unfold at_
  rw [if_pos hi]
  rfl

/-- Of moved boxes, the overlap is the mathematics'. -/
theorem overlap_apply (x1 y1 x2 y2 : FVec Ideal S1x384 .f32) (i j : Fin 384)
    (h : ∀ k : Fin 384, k = i ∨ k = j → x1 (ix2 0 k) = Spec.moved a k.val 0 ∧ y1 (ix2 0 k) = Spec.moved a k.val 1 ∧
      x2 (ix2 0 k) = Spec.moved a k.val 2 ∧ y2 (ix2 0 k) = Spec.moved a k.val 3) :
    overlap x1 y1 x2 y2 (ix2 i j) = Spec.iou a i.val j.val := by
  obtain ⟨i1, i2, i3, i4⟩ := h i (.inl rfl)
  obtain ⟨j1, j2, j3, j4⟩ := h j (.inr rfl)
  have hz : (splat (F := Ideal) S384x384 0x00000000#32) (ix2 i j) = 0 := Ideal.ofBits_zero_f32
  unfold overlap inter Spec.iou Spec.extent
  rw [divf_apply, addf_apply, subf_apply, addf_apply, mulf_apply, maximumf_apply, maximumf_apply, subf_apply, subf_apply,
    minimumf_apply, minimumf_apply, maximumf_apply, maximumf_apply, hz]
  simp only [stood_apply, laid_apply]
  unfold area Spec.area
  simp only [mulf_apply, subf_apply, i1, i2, i3, i4, j1, j2, j3, j4]
  rfl

theorem iou_apply {k : Cand Ideal} (hk : Has a k) (i j : Fin 384) (hi : i.val < 300) (hj : j.val < 300) :
    iou k (ix2 i j) = Spec.iou a i.val j.val := by
  unfold iou
  refine overlap_apply _ _ _ _ i j fun q hq => ?_
  have hq' : q.val < 300 := by rcases hq with rfl | rfl <;> assumption
  exact ⟨moved_apply _ _ 0 q hq' (hk.cls q) (hk.x1 q), moved_apply _ _ 1 q hq' (hk.cls q) (hk.y1 q),
    moved_apply _ _ 2 q hq' (hk.cls q) (hk.x2 q), moved_apply _ _ 3 q hq' (hk.cls q) (hk.y2 q)⟩

/-! ## The suppression -/

/-- The kept candidates, one and zero, after the first `m` have had their say. -/
def Keeps (a : ℕ → ℕ → EReal) (m : ℕ) (keep : FVec Ideal S1x384 .f32) : Prop :=
  ∀ l : Fin 384, keep (ix2 0 l) = hot (Spec.kept a m l.val)

theorem lanes16_apply (r : Fin 16) (l : Fin 384) : lanes16 (F := Ideal) (ix2 r l) = ((l.val : ℝ) : EReal) := by
  show FloatOps.sitofp (F := Ideal) .f32 (BitVec.ofNat 32 (0 * 384 + l.val)) = _
  rw [float_word _ (by omega)]; simp

theorem rows16_apply (k : ℕ) (hk : k < 19) (r : Fin 16) (l : Fin 384) :
    rows16 (F := Ideal) k (ix2 r l) = (((16 * k + r.val : ℕ) : ℝ) : EReal) := by
  have h : Scalar.muli (Scf.iv 0#32 1#32 k) 16#32 = BitVec.ofNat 32 (16 * k) := by
    interval_cases k <;> rfl
  show FloatOps.sitofp (F := Ideal) .f32 (BitVec.ofNat 32 (0 * 16 + r.val))
    + FloatOps.sitofp (F := Ideal) .f32 (Scalar.muli (Scf.iv 0#32 1#32 k) 16#32) = _
  rw [h, float_word _ (by omega), float_word _ (by omega), ← EReal.coe_add]
  congr 1; push_cast; ring

theorem own16_apply (k : ℕ) (hk : k < 19) (r : Fin 16) (l : Fin 384) :
    own16 (F := Ideal) k (ix2 r l) = hot (l.val = 16 * k + r.val) := by
  refine (float_oeq _ _).trans ?_
  rw [lanes16_apply, rows16_apply k hk]
  congr 1
  simp only [EReal.coe_eq_coe_iff, Nat.cast_inj]

theorem row_apply {α : Type} (x : S16x384.Idx → α) (j : ℕ) (h : j < 16) (l : Fin 384) :
    extractStridedSlice S1x384 ![j, 0] x (row_slices j h) (ix2 0 l) = x (ix2 ⟨j, h⟩ l) := by
  show x _ = x _
  congr 1
  funext d
  match d with
  | ⟨0, _⟩ => exact Fin.ext (by show j + 0 = j; omega)
  | ⟨1, _⟩ => exact Fin.ext (by show 0 + l.val = l.val; omega)

theorem hot_nonneg (p : Prop) : 0 ≤ hot p := by
  by_cases h : p
  · rw [hot_pos h]; exact zero_le_one
  · rw [hot_neg h]

theorem kept_apply (k j : ℕ) (hk : k < 19) (h : j < 16) (keep : FVec Ideal S1x384 .f32) {m : ℕ} (hm : Keeps a m keep) :
    kept k j h keep = hot (Spec.kept a m (16 * k + j)) := by
  unfold kept extractAt
  rw [unit_cast]
  refine (multiReduction_maximumf_eq_fold _ _ _ _ _ _).trans ?_
  have hb : (FloatOps.ofBits (F := Ideal) .f32 0xFF800000#32) = (⊥ : EReal) := Spec.const_bot
  rw [hb]
  refine fold_max_all _ _ _ (fun i => unit_eq _ _) (fun i => ?_) (ix3 0 0 ⟨16 * k + j, by omega⟩) ?_
  · obtain ⟨u, r, l, rfl⟩ := split3 i
    rw [shapeCast_ab_1ab_apply, mulf_apply]
    obtain rfl : r = 0 := Subsingleton.elim _ _
    rw [row_apply _ j h, own16_apply k hk, hm]
    by_cases e : l.val = 16 * k + j
    · rw [hot_pos e, one_mul, e]
    · rw [hot_neg e, zero_mul]; exact hot_nonneg _
  · rw [shapeCast_ab_1ab_apply, mulf_apply, row_apply _ j h, own16_apply k hk, hm, hot_pos rfl, one_mul]

theorem hot_pos_iff (p : Prop) : (0 : EReal) < hot p ↔ p := by
  by_cases h : p
  · rw [hot_pos h]; exact ⟨fun _ => h, fun _ => zero_lt_one⟩
  · rw [hot_neg h]; exact ⟨fun h' => absurd h' (lt_irrefl _), fun h' => absurd h' h⟩

theorem select_and {α : Type} (p q : Bool) (x y : α) :
    Scalar.select (IntOp.andi (BitVec.ofBool p) (BitVec.ofBool q)) x y = if p = true ∧ q = true then x else y := by
  cases p <;> cases q <;> rfl

theorem ogt_bool (x y : EReal) : FloatOps.cmpf (F := Ideal) (φ := .f32) .ogt x y = BitVec.ofBool (decide (y < x)) := rfl

theorem and_bool (p q : Bool) : IntOp.andi (BitVec.ofBool p) (BitVec.ofBool q) = BitVec.ofBool (p && q) := by
  cases p <;> cases q <;> rfl

theorem rowStep_apply (k j : ℕ) (hk : k < 19) (h : j < 16) (b : FVec Ideal S1x16x384 .f32) (keep : FVec Ideal S1x384 .f32)
    (hb : ∀ l : Fin 384, 16 * k + j < 300 → l.val < 300 → b (ix3 0 ⟨j, h⟩ l) = Spec.iou a (16 * k + j) l.val)
    {m : ℕ} (hm : Keeps a m keep) (e : m = 16 * k + j) : Keeps a (m + 1) (rowStep k j h b keep) := by
  intro l
  unfold rowStep
  have hz : (splat (F := Ideal) S1x384 0x00000000#32) (ix2 0 l) = 0 := Ideal.ofBits_zero_f32
  have hz' : (Scalar.ofBits (F := Ideal) .f32 0x00000000#32) = (0 : EReal) := Ideal.ofBits_zero_f32
  have hs : (andi (extractStridedSlice S1x384 ![j, 0] (sup16 k b) (row_slices j h))
      (broadcast S1x384 (Scalar.cmpf .ogt (kept k j h keep) (Scalar.ofBits .f32 0x00000000#32)))) (ix2 0 l)
      = BitVec.ofBool ((decide (Ideal.ofBits .f32 0x3EE66666#32 < b (ix3 0 ⟨j, h⟩ l)) && decide (16 * k + j < l.val)) &&
          decide (0 < hot (Spec.kept a m (16 * k + j)))) := by
    rw [← and_bool, ← and_bool]
    show IntOp.andi (extractStridedSlice S1x384 ![j, 0] (sup16 k b) (row_slices j h) (ix2 0 l)) (FloatOps.cmpf (F := Ideal) (φ := .f32) .ogt (kept k j h keep) (Scalar.ofBits (F := Ideal) .f32 0x00000000#32)) = _
    rw [row_apply, hz', kept_apply k j hk h keep hm, ogt_bool]
    congr 1
    show IntOp.andi (FloatOps.cmpf (F := Ideal) (φ := .f32) .ogt (shapeCast S16x384 b shapeCasts_S1x16x384_S16x384 (ix2 ⟨j, h⟩ l)) (Ideal.ofBits .f32 0x3EE66666#32))
      (FloatOps.cmpf (F := Ideal) (φ := .f32) .ogt (lanes16 (F := Ideal) (ix2 ⟨j, h⟩ l)) (rows16 (F := Ideal) k (ix2 ⟨j, h⟩ l))) = _
    rw [shapeCast_1ab_ab_apply, lanes16_apply, rows16_apply k hk, ogt_bool, ogt_bool]
    congr 2
    simp only [EReal.coe_lt_coe_iff, Nat.cast_lt]
  rw [select_apply, hs, hz, hm l]
  subst e
  by_cases hl : Spec.kept a (16 * k + j) l.val
  · rw [hot_pos hl]
    by_cases hi : Spec.kept a (16 * k + j) (16 * k + j)
    · rw [hb l (Spec.kept_lt a hi) (Spec.kept_lt a hl), hot_pos hi]
      by_cases hc : Spec.covers a (16 * k + j) l.val
      · rw [hot_neg (fun hn => hn.2 ⟨hc, hi⟩)]
        simp [Scalar.select, hc.1, hc.2]
      · rw [hot_pos ⟨hl, fun hn => hc hn.1⟩]
        have : ¬ (Ideal.ofBits .f32 0x3EE66666#32 < Spec.iou a (16 * k + j) l.val ∧ 16 * k + j < l.val) := hc
        have hd : (decide (Ideal.ofBits .f32 0x3EE66666#32 < Spec.iou a (16 * k + j) l.val) && decide (16 * k + j < l.val)) = false := by
          rw [← Bool.decide_and]; exact decide_eq_false this
        rw [hd]; rfl
    · rw [hot_neg hi, hot_pos ⟨hl, fun hn => hi hn.2⟩]
      simp [Scalar.select]
  · rw [hot_neg hl, hot_neg (fun hn : Spec.kept a (16 * k + j + 1) l.val => hl hn.1)]
    simp [Scalar.select]

theorem chunk_apply (k : ℕ) (hk : k < 19) (b : FVec Ideal S1x16x384 .f32) (keep : FVec Ideal S1x384 .f32)
    (hb : ∀ (j : Fin 16) (l : Fin 384), 16 * k + j.val < 300 → l.val < 300 → b (ix3 0 j l) = Spec.iou a (16 * k + j.val) l.val)
    (hm : Keeps a (16 * k) keep) : Keeps a (16 * (k + 1)) (chunk k b keep) := by
  have h0 := rowStep_apply k 0 hk (by decide) b keep (hb ⟨0, by decide⟩) hm rfl
  have h1 := rowStep_apply k 1 hk (by decide) b _ (hb ⟨1, by decide⟩) h0 rfl
  have h2 := rowStep_apply k 2 hk (by decide) b _ (hb ⟨2, by decide⟩) h1 rfl
  have h3 := rowStep_apply k 3 hk (by decide) b _ (hb ⟨3, by decide⟩) h2 rfl
  have h4 := rowStep_apply k 4 hk (by decide) b _ (hb ⟨4, by decide⟩) h3 rfl
  have h5 := rowStep_apply k 5 hk (by decide) b _ (hb ⟨5, by decide⟩) h4 rfl
  have h6 := rowStep_apply k 6 hk (by decide) b _ (hb ⟨6, by decide⟩) h5 rfl
  have h7 := rowStep_apply k 7 hk (by decide) b _ (hb ⟨7, by decide⟩) h6 rfl
  have h8 := rowStep_apply k 8 hk (by decide) b _ (hb ⟨8, by decide⟩) h7 rfl
  have h9 := rowStep_apply k 9 hk (by decide) b _ (hb ⟨9, by decide⟩) h8 rfl
  have h10 := rowStep_apply k 10 hk (by decide) b _ (hb ⟨10, by decide⟩) h9 rfl
  have h11 := rowStep_apply k 11 hk (by decide) b _ (hb ⟨11, by decide⟩) h10 rfl
  have h12 := rowStep_apply k 12 hk (by decide) b _ (hb ⟨12, by decide⟩) h11 rfl
  have h13 := rowStep_apply k 13 hk (by decide) b _ (hb ⟨13, by decide⟩) h12 rfl
  have h14 := rowStep_apply k 14 hk (by decide) b _ (hb ⟨14, by decide⟩) h13 rfl
  exact rowStep_apply k 15 hk (by decide) b _ (hb ⟨15, by decide⟩) h14 rfl

theorem valid_apply {k : Cand Ideal} (hk : Has a k) : Keeps a 0 (valid k.sc) := by
  intro l
  show (FloatOps.sitofp (F := Ideal) .f32 ((FloatOps.cmpf (F := Ideal) (φ := .f32) .ogt (k.sc (ix2 0 l))
    (Ideal.ofBits .f32 0x3E800000#32)).setWidth 32) : EReal) = _
  rw [ogt_bool, float_hot, hk.sc, decide_eq_true_eq]
  congr 1
  unfold Spec.kept Spec.quarter
  by_cases h : l.val < 300
  · simp [h]
  · rw [if_neg h, Spec.const_quarter, EReal.coe_lt_coe_iff]
    simp only [h, false_and, eq_iff_iff, iff_false]; norm_num

theorem keeps_apply (b : ℕ → FVec Ideal S1x16x384 .f32) (init : FVec Ideal S1x384 .f32) (h0 : Keeps a 0 init)
    (hb : ∀ k < 19, ∀ (j : Fin 16) (l : Fin 384), 16 * k + j.val < 300 → l.val < 300 → b k (ix3 0 j l) = Spec.iou a (16 * k + j.val) l.val)
    (k : ℕ) (hk : k ≤ 19) : Keeps a (16 * k) (keeps b init k) := by
  induction k with
  | zero => exact h0
  | succ k ih => exact chunk_apply k (by omega) (b k) _ (hb k (by omega)) (ih (by omega))

theorem keeps_last {keep : FVec Ideal S1x384 .f32} (h : Keeps a (16 * 19) keep) : Keeps a 300 keep := by
  intro l
  rw [h l]; congr 1
  exact propext (Spec.kept_more a (by decide) l.val)

end Cert.Proof.Overlapping

end
-- ==== Proof.Packing.lean ====
/- The kernel's packing of the kept candidates into the slots, at an index. -/
module

public import proofs.«01_k».proof.Proof.Overlapping

@[expose] public section

noncomputable section

namespace Cert.Proof.Packing

open Cert.KernelIdeal Cert.KernelIdeal.Gen
open Cert.Proof.Image Cert.Proof.Planes Cert.Proof.Selecting Cert.Proof.Gathering Cert.Proof.Overlapping
open Idealize.ShloMosaic Idealize.ShloMosaic.TcCoe Idealize.ShloMosaic.ValueIdx
open scoped BigOperators

variable {a : ℕ → ℕ → EReal}

theorem hot_mul (p q : Prop) : hot p * hot q = hot (p ∧ q) := by
  by_cases hp : p
  · by_cases hq : q
    · rw [hot_pos hp, hot_pos hq, hot_pos ⟨hp, hq⟩, one_mul]
    · rw [hot_neg hq, hot_neg (fun h : p ∧ q => hq h.2), mul_zero]
  · rw [hot_neg hp, hot_neg (fun h : p ∧ q => hp h.1), zero_mul]

open Classical in
theorem sum_hot_card {n : ℕ} (p : ℕ → Prop) : ∑ k : Fin n, hot (p k.val) = ((((Finset.range n).filter p).card : ℝ) : EReal) := by
  rw [Finset.sum_fin_eq_sum_range]
  have h : ∀ i ∈ Finset.range n, (if h : i < n then hot (p (⟨i, h⟩ : Fin n).val) else 0) = hot (p i) := by
    intro i hi
    rw [dif_pos (Finset.mem_range.mp hi)]
  rw [Finset.sum_congr rfl h]
  unfold hot
  rw [Finset.sum_boole]
  simp

/-- How many candidates are kept up to a lane. -/
theorem rank_apply {keep : FVec Ideal S1x384 .f32} (hm : Keeps a 300 keep) (j : Fin 384) :
    matmul dot_S1x384_S384x384_S1x384_1_0_0_1_n_n (some .fp32) keep upper (constant S1x384 .f32 0x00000000#32) (ix2 0 j)
      = ((Spec.count a (j.val + 1) : ℝ) : EReal) := by
  classical
  rw [matmul_rows]
  have h : ∀ k : Fin 384, keep (ix2 0 k) * upper (F := Ideal) (ix2 k j) = hot (Spec.kept a 300 k.val ∧ k.val ≤ j.val) := by
    intro k
    rw [hm, upper_apply, hot_mul]
  simp only [h]
  rw [sum_hot_card (fun k => Spec.kept a 300 k ∧ k ≤ j.val)]
  congr 3
  ext i
  simp only [Finset.mem_filter, Finset.mem_range]
  constructor
  · rintro ⟨h1, h2, h3⟩; exact ⟨by omega, h2⟩
  · rintro ⟨h1, h2⟩; exact ⟨by omega, h2, by omega⟩

theorem slots_apply {keep : FVec Ideal S1x384 .f32} (hm : Keeps a 300 keep) (e : Fin 20) (j : Fin 384) :
    slots keep (ix2 e j) = hot (Spec.holds a e.val j.val) := by
  unfold slots
  have hr := rank_apply hm j
  generalize matmul dot_S1x384_S384x384_S1x384_1_0_0_1_n_n (some .fp32) keep upper (constant S1x384 .f32 0x00000000#32) = y at hr ⊢
  have hi : ∀ (v : FVec Ideal S1x384 .f32), broadcastTo S20x384 v broadcasts_S1x384_S20x384 (ix2 e j) = v (ix2 0 j) := by
    intro v
    show v _ = v _
    congr 1
    funext d
    match d with
    | ⟨0, _⟩ => rfl
    | ⟨1, _⟩ => rfl
  have hi' : ∀ (v : IVec S1x384 1), broadcastTo S20x384 v broadcasts_S1x384_S20x384 (ix2 e j) = v (ix2 0 j) := by
    intro v
    show v _ = v _
    congr 1
    funext d
    match d with
    | ⟨0, _⟩ => rfl
    | ⟨1, _⟩ => rfl
  have h1 : (splat (F := Ideal) S1x384 0x3F800000#32) (ix2 0 j) = 1 := Ideal.ofBits_one_f32
  have h0 : (splat (F := Ideal) S1x384 0x00000000#32) (ix2 0 j) = 0 := Ideal.ofBits_zero_f32
  have hw : FloatOps.sitofp (F := Ideal) .f32 (BitVec.ofNat 32 (0 * 20 + e.val)) = ((e.val : ℝ) : EReal) := by
    rw [float_word _ (by omega)]; simp
  show (FloatOps.sitofp (F := Ideal) .f32 ((IntOp.andi
    (FloatOps.cmpf (F := Ideal) (φ := .f32) .oeq (broadcastTo S20x384 (subf y (splat S1x384 0x3F800000#32)) broadcasts_S1x384_S20x384 (ix2 e j))
      (FloatOps.sitofp (F := Ideal) .f32 (BitVec.ofNat 32 (0 * 20 + e.val))))
    (broadcastTo S20x384 (cmpf .ogt keep (splat S1x384 0x00000000#32)) broadcasts_S1x384_S20x384 (ix2 e j))).setWidth 32) : EReal) = _
  rw [hi, hi', hw, subf_apply, cmpf_apply, hr, h1, h0, hm, ogt_bool,
    show FloatOps.cmpf (F := Ideal) (φ := .f32) .oeq (((Spec.count a (j.val + 1) : ℝ) : EReal) - 1) ((e.val : ℝ) : EReal)
      = BitVec.ofBool (decide ((((Spec.count a (j.val + 1) : ℝ) : EReal) - 1) = ((e.val : ℝ) : EReal))) from rfl,
    and_bool, float_hot]
  congr 1
  simp only [Bool.and_eq_true, decide_eq_true_eq, hot_pos_iff, eq_iff_iff]
  unfold Spec.holds
  have hsub : ((Spec.count a (j.val + 1) : ℝ) : EReal) - 1 = (((Spec.count a (j.val + 1) : ℝ) - 1 : ℝ) : EReal) := by
    rw [EReal.coe_sub]; rfl
  rw [hsub, EReal.coe_eq_coe_iff]
  constructor
  · rintro ⟨h, hk⟩
    rw [Spec.count_succ a j.val hk] at h
    push_cast at h
    refine ⟨hk, ?_⟩
    have : (Spec.count a j.val : ℝ) = (e.val : ℝ) := by linarith
    exact_mod_cast this
  · rintro ⟨hk, h⟩
    refine ⟨?_, hk⟩
    rw [Spec.count_succ a j.val hk, h]
    push_cast; ring

/-- A field sent to the slots. -/
theorem packed_apply {keep : FVec Ideal S1x384 .f32} (hm : Keeps a 300 keep) (v : FVec Ideal S1x384 .f32) (w : ℕ → EReal)
    (hv : ∀ j : Fin 384, j.val < 300 → v (ix2 0 j) = w j.val ∨ ¬ Spec.kept a 300 j.val) (e : Fin 20) (u : Fin 1) :
    packed keep v (ix2 e u) = Spec.slot a w e.val := by
  classical
  unfold packed
  rw [matmul_slots]
  simp only [slots_apply hm]
  by_cases h : ∃ t, Spec.holds a e.val t
  · obtain ⟨t, ht⟩ := h
    have htl := Spec.kept_lt a ht.1
    rw [Spec.slot_of_holds a w ht, Finset.sum_eq_single (⟨t, by omega⟩ : Fin 384)]
    · rw [hot_pos ht, one_mul]
      rcases hv ⟨t, by omega⟩ htl with h | h
      · exact h
      · exact absurd ht.1 h
    · intro k _ hk
      rw [hot_neg (fun h' => hk (Fin.ext (Spec.holds_unique a h' ht))), zero_mul]
    · intro h'; exact absurd (Finset.mem_univ _) h'
  · rw [Spec.slot_of_not a w (fun t ht => h ⟨t, ht⟩)]
    exact Finset.sum_eq_zero fun k _ => by rw [hot_neg (fun h' => h ⟨_, h'⟩), zero_mul]

theorem packed_corner {k : Cand Ideal} (c : ℕ) {keep : FVec Ideal S1x384 .f32} (hm : Keeps a 300 keep) (v : FVec Ideal S1x384 .f32)
    (hv : ∀ j : Fin 384, v (ix2 0 j) = Spec.corner a (at_ a j.val) c) (e : Fin 20) (u : Fin 1) :
    packed keep v (ix2 e u) = Spec.slotCorner a e.val c :=
  packed_apply hm v _ (fun j hj => .inl (by rw [hv]; unfold at_; rw [if_pos hj])) e u

theorem packed_cls {k : Cand Ideal} (hk : Has a k) {keep : FVec Ideal S1x384 .f32} (hm : Keeps a 300 keep) (e : Fin 20) (u : Fin 1) :
    packed keep k.cls (ix2 e u) = Spec.slotCls a e.val :=
  packed_apply hm _ _ (fun j hj => .inl (by rw [hk.cls]; unfold at_; rw [if_pos hj])) e u

theorem packed_sc {k : Cand Ideal} (hk : Has a k) {keep : FVec Ideal S1x384 .f32} (hm : Keeps a 300 keep) (e : Fin 20) (u : Fin 1) :
    packed keep k.sc (ix2 e u) = Spec.slotProb a e.val := by
  refine packed_apply hm _ _ (fun j hj => ?_) e u
  by_cases h : Spec.kept a 300 j.val
  · left
    rw [hk.sc, if_pos hj]
    have := Spec.kept_score a h
    unfold Spec.score at this ⊢
    split
    · rfl
    · next h' =>
      rw [if_neg h', Spec.const_neg_one, Spec.quarter, Spec.const_quarter, EReal.coe_lt_coe_iff] at this
      norm_num at this
  · exact .inr h

/-! ## The columns -/

theorem color_apply (c : FVec Ideal S20x1 .f32) (e : Fin 20) (k : ℕ) (h : c (ix2 e 0) = ((k : ℝ) : EReal)) :
    color c (ix2 e 0) = (((k / 3 : ℕ) : ℝ) : EReal) := by
  show Ideal.liftRound Int.floor (Ideal.div (c (ix2 e 0)) (Ideal.ofBits .f32 0x40400000#32)) = _
  rw [h, Spec.const_three, Ideal.div_coe (by norm_num), ← EReal.coe_mul]
  show (((⌊(k : ℝ) * (1 / 3)⌋ : ℤ) : ℝ) : EReal) = _
  have : ⌊(k : ℝ) * (1 / 3)⌋ = ((k / 3 : ℕ) : ℤ) := by
    rw [Int.floor_eq_iff]
    have h1 : (((k / 3 : ℕ) : ℝ)) * 3 ≤ (k : ℝ) := by exact_mod_cast Nat.div_mul_le_self k 3
    have h2 : (k : ℝ) < (((k / 3 : ℕ) : ℝ)) * 3 + 3 := by
      have : k < (k / 3) * 3 + 3 := by omega
      exact_mod_cast this
    rw [Int.cast_natCast]
    constructor <;> linarith
  rw [this, Int.cast_natCast]

theorem form_apply (c : FVec Ideal S20x1 .f32) (e : Fin 20) (k : ℕ) (h : c (ix2 e 0) = ((k : ℝ) : EReal)) :
    form c (ix2 e 0) = (((k % 3 : ℕ) : ℝ) : EReal) := by
  unfold form
  rw [subf_apply, mulf_apply, color_apply c e k h, h]
  show ((k : ℝ) : EReal) - Ideal.ofBits .f32 0x40400000#32 * (((k / 3 : ℕ) : ℝ) : EReal) = _
  rw [Spec.const_three, ← EReal.coe_mul, ← EReal.coe_sub]
  congr 1
  have h : (k : ℝ) = 3 * ((k / 3 : ℕ) : ℝ) + ((k % 3 : ℕ) : ℝ) := by exact_mod_cast (Nat.div_add_mod k 3).symm
  linarith

theorem hot3_apply (i p : FVec Ideal S20x1 .f32) (e : Fin 20) (l : Fin 3) :
    hot3 i p (ix2 e l) = if i (ix2 e 0) = ((l.val : ℝ) : EReal) then p (ix2 e 0) else 0 := by
  have hw : FloatOps.sitofp (F := Ideal) .f32 (BitVec.ofNat 32 (0 * 3 + l.val)) = ((l.val : ℝ) : EReal) := by
    rw [float_word _ (by omega)]; simp
  have hi : ∀ (v : FVec Ideal S20x1 .f32), broadcastTo S20x3 v broadcasts_S20x1_S20x3 (ix2 e l) = v (ix2 e 0) := by
    intro v
    show v _ = v _
    congr 1
    funext d
    match d with
    | ⟨0, _⟩ => rfl
    | ⟨1, _⟩ => rfl
  have hc : shapeCast S20x1 p shapeCasts_S20x1_S20x1 (ix2 e 0) = p (ix2 e 0) := shapeCast_apply p _ _ _ rfl
  have hz : (splat (F := Ideal) S20x3 0x00000000#32) (ix2 e l) = 0 := Ideal.ofBits_zero_f32
  unfold hot3
  rw [select_apply, cmpf_apply, select_oeq, hi, hi, hc, hz]
  rw [show (sitofp (F := Ideal) .f32 (iota .tc S20x3 32 [1] iota_S20x3_d1_w32)) (ix2 e l) = ((l.val : ℝ) : EReal) from hw]

/-- The image's slots are the mathematics' result. -/
theorem out_apply {k : Cand Ideal} (hk : Has a k) {keep : FVec Ideal S1x384 .f32} (hm : Keeps a 300 keep) (e : Fin 20) (l : Fin 11) :
    out k keep (ix2 e l) = Spec.result a e.val l.val := by
  classical
  obtain ⟨c, -, hc⟩ := Spec.slotCls_nat a e.val
  have hcls : packed keep k.cls (ix2 e 0) = ((c : ℝ) : EReal) := (packed_cls hk hm e 0).trans hc
  have huniq : ∀ (m : ℕ) (f : ℕ → ℕ), (∃ q : ℕ, Spec.slotCls a e.val = ((q : ℝ) : EReal) ∧ f q = m) ↔ f c = m := by
    intro m f
    constructor
    · rintro ⟨q, hq, h⟩
      rw [hc, EReal.coe_eq_coe_iff, Nat.cast_inj] at hq
      rw [hq]; exact h
    · intro h; exact ⟨c, hc, h⟩
  unfold out Spec.result
  by_cases h4 : l.val < 4
  · rw [if_pos h4]
    refine (concatenate_apply_piece (α := EReal) (t := S20x11) 1 _ _ _ 0 (by simp) S20x4 _ rfl rfl 0 rfl (ix2 e ⟨l.val, h4⟩) ?_ (Nat.zero_add _)).trans ?_
    · intro b hb
      match b with
      | ⟨0, _⟩ => rfl
      | ⟨1, _⟩ => exact absurd rfl hb
    rw [mulf_apply, Spec.div_128]
    congr 1
    obtain ⟨l, hl⟩ := l
    interval_cases l
    · refine (concatenate_apply_piece (α := EReal) (t := S20x4) 1 _ _ _ 0 (by simp) S20x1 _ rfl rfl 0 rfl (ix2 e 0) ?_ rfl).trans
        (packed_corner (k := k) 0 hm _ hk.x1 e 0)
      intro b hb
      match b with
      | ⟨0, _⟩ => rfl
      | ⟨1, _⟩ => exact absurd rfl hb
    · refine (concatenate_apply_piece (α := EReal) (t := S20x4) 1 _ _ _ 1 (by simp) S20x1 _ rfl rfl 1 rfl (ix2 e 0) ?_ rfl).trans
        (packed_corner (k := k) 1 hm _ hk.y1 e 0)
      intro b hb
      match b with
      | ⟨0, _⟩ => rfl
      | ⟨1, _⟩ => exact absurd rfl hb
    · refine (concatenate_apply_piece (α := EReal) (t := S20x4) 1 _ _ _ 2 (by simp) S20x1 _ rfl rfl 2 rfl (ix2 e 0) ?_ rfl).trans
        (packed_corner (k := k) 2 hm _ hk.x2 e 0)
      intro b hb
      match b with
      | ⟨0, _⟩ => rfl
      | ⟨1, _⟩ => exact absurd rfl hb
    · refine (concatenate_apply_piece (α := EReal) (t := S20x4) 1 _ _ _ 3 (by simp) S20x1 _ rfl rfl 3 rfl (ix2 e 0) ?_ rfl).trans
        (packed_corner (k := k) 3 hm _ hk.y2 e 0)
      intro b hb
      match b with
      | ⟨0, _⟩ => rfl
      | ⟨1, _⟩ => exact absurd rfl hb
  rw [if_neg h4]
  by_cases h7 : l.val < 7
  · rw [if_pos h7]
    refine (concatenate_apply_piece (α := EReal) (t := S20x11) 1 _ _ _ 1 (by simp) S20x3 _ rfl rfl 4 rfl (ix2 e ⟨l.val - 4, by omega⟩) ?_
      (by show 4 + (l.val - 4) = l.val; omega)).trans ?_
    · intro b hb
      match b with
      | ⟨0, _⟩ => rfl
      | ⟨1, _⟩ => exact absurd rfl hb
    rw [hot3_apply, color_apply _ e c hcls, packed_sc hk hm]
    refine if_congr ?_ rfl rfl
    rw [huniq (l.val - 4) (fun q => q / 3), EReal.coe_eq_coe_iff, Nat.cast_inj]
  rw [if_neg h7]
  by_cases h10 : l.val < 10
  · rw [if_pos h10]
    refine (concatenate_apply_piece (α := EReal) (t := S20x11) 1 _ _ _ 2 (by simp) S20x3 _ rfl rfl 7 rfl (ix2 e ⟨l.val - 7, by omega⟩) ?_
      (by show 7 + (l.val - 7) = l.val; omega)).trans ?_
    · intro b hb
      match b with
      | ⟨0, _⟩ => rfl
      | ⟨1, _⟩ => exact absurd rfl hb
    rw [hot3_apply, form_apply _ e c hcls, packed_sc hk hm]
    refine if_congr ?_ rfl rfl
    rw [huniq (l.val - 7) (fun q => q % 3), EReal.coe_eq_coe_iff, Nat.cast_inj]
  rw [if_neg h10]
  refine (concatenate_apply_piece (α := EReal) (t := S20x11) 1 _ _ _ 3 (by simp) S20x1 _ rfl rfl 10 rfl (ix2 e 0) ?_
      (by show 10 + 0 = l.val; omega)).trans (packed_sc hk hm e 0)
  intro b hb
  match b with
  | ⟨0, _⟩ => rfl
  | ⟨1, _⟩ => exact absurd rfl hb

end Cert.Proof.Packing

end
-- ==== Proof.KernelResult.lean ====
/- What the kernel leaves in its result: each image's slots. -/
module

public import proofs.«01_k».proof.Proof.Packing
public import proofs.«01_k».proof.Proof.IdealFrame
public import Idealize.ShloMosaic.Lib.WritesUnit
public import Idealize.ShloMosaic.Lib.KernelVsHost
public import Idealize.ShloMosaic.Lib.WholeRead

@[expose] public section

noncomputable section

namespace Cert.Proof.KernelIdeal

open Cert.KernelIdeal Cert.KernelIdeal.Gen Cert.Proof.Image
open Cert.Proof.Planes Cert.Proof.Selecting Cert.Proof.Gathering Cert.Proof.Overlapping Cert.Proof.Packing
open Idealize.ShloMosaic Idealize.ShloMosaic.TcCoe Idealize.ShloMosaic.ValueIdx

/-- Image `b`'s entries of an input, zero past its rows. -/
def entries (x : FVec Ideal S4x20000x14 .f32) (b n i : ℕ) : EReal :=
  if h : b < 4 ∧ n < 20000 ∧ i < 14 then x (ix3 ⟨b, h.1⟩ ⟨n, h.2.1⟩ ⟨i, h.2.2⟩) else 0

theorem entries_far (x : FVec Ideal S4x20000x14 .f32) (b n : ℕ) (h : 20000 ≤ n) (i : ℕ) : entries x b n i = 0 :=
  dif_neg (by omega)

/-- The input padded, transposed and laid out in rows of 128. -/
def staged (x : FVec Ideal S4x20000x14 .f32) : FVec Ideal S4x14x160x128 .f32 :=
  shapeCast S4x14x160x128 (transpose S4x14x20480 [0, 2, 1]
    (pad S4x20480x14 ![0, 0, 0] ![0, 480, 0] ![0, 0, 0] x (sitofp (F := Ideal) .f32 (constantI S_ 32 0#32))
      pads_S4x20000x14_S4x20480x14_000_04800_000 h_S_) transposes_S4x20480x14_S4x14x20480_0_2_1)
    shapeCasts_S4x14x20480_S4x14x160x128

theorem staged_apply (x : FVec Ideal S4x20000x14 .f32) (b : Fin 4) (i : Fin 14) (r : Fin 160) (l : Fin 128) :
    staged x (ix4 b i r l) = entries x b.val (128 * r.val + l.val) i.val := by
  have hn : 128 * r.val + l.val < 20480 := by have := r.isLt; have := l.isLt; omega
  unfold staged
  rw [shapeCast_apply _ _ (ix4 b i r l) (ix3 b i ⟨128 * r.val + l.val, hn⟩) ?_]
  swap
  · rw [Shape.rowMajor_val_three, Shape.rowMajor_val_four]
    show (b.val * 14 + i.val) * 20480 + (128 * r.val + l.val) = ((b.val * 14 + i.val) * 160 + r.val) * 128 + l.val
    omega
  rw [show ∀ y : FVec Ideal S4x20480x14 .f32, transpose S4x14x20480 [0, 2, 1] y transposes_S4x20480x14_S4x14x20480_0_2_1
      (ix3 b i ⟨128 * r.val + l.val, hn⟩) = y (ix3 b ⟨128 * r.val + l.val, hn⟩ i) from fun y => by
    show y _ = y _
    congr 1; funext d
    match d with
    | ⟨0, _⟩ => rfl
    | ⟨1, _⟩ => rfl
    | ⟨2, _⟩ => rfl]
  by_cases h : 128 * r.val + l.val < 20000
  · rw [pad_apply_of_inside _ _ _ _ _ _ _ _ (ix3 b ⟨128 * r.val + l.val, h⟩ i)]
    · unfold entries
      rw [dif_pos ⟨b.isLt, h, i.isLt⟩]
    · intro d
      match d with
      | ⟨0, _⟩ => show b.val = 0 + b.val * 1; omega
      | ⟨1, _⟩ => show 128 * r.val + l.val = 0 + (128 * r.val + l.val) * 1; omega
      | ⟨2, _⟩ => show i.val = 0 + i.val * 1; omega
  · rw [pad_apply_of_not_inside _ _ _ _ _ _ _ _ (1 : Fin 3)]
    · rw [entries_far x _ _ (by omega)]
      show (FloatOps.sitofp (F := Ideal) .f32 (BitVec.ofNat 32 0) : EReal) = 0
      rw [float_word 0 (by decide)]
      norm_num
    · intro hin
      have h2 : ((128 * r.val + l.val) - 0) / (0 + 1) < 20000 := hin.2.2
      omega

section Body
variable (arg0 : Memref sig .tc .vmem S4x14x160x128 .f32) (harg0 : arg0.IsWhole)
    (arg2 : Memref sig .tc .vmem S4x384x384 .f32) (x : FVec Ideal S4x20000x14 .f32)

theorem image_holds (b : ℕ) (h : b < 4) : Holds (entries x b) (image (F := Ideal) arg0 harg0 (staged x) b h) := by
  intro i r l
  unfold image
  rw [shapeCast_1abc_abc_apply, harg0.readAt_unread, ← staged_apply x ⟨b, h⟩ i r l]
  congr 1
  funext d
  match d with
  | ⟨0, _⟩ => exact Fin.ext (show b + 1 * 0 = b by omega)
  | ⟨1, _⟩ => exact Fin.ext (show 0 + 1 * i.val = i.val by omega)
  | ⟨2, _⟩ => exact Fin.ext (show 0 + 1 * r.val = r.val by omega)
  | ⟨3, _⟩ => exact Fin.ext (show 0 + 1 * l.val = l.val by omega)

theorem cands_has (b : ℕ) (h : b < 4) : Has (entries x b) (cands (F := Ideal) arg0 harg0 (staged x) b h) :=
  cand_has (image_holds arg0 harg0 x b h) _
    (picks_before (entries_far x b) (image_holds arg0 harg0 x b h) _ (by decide +kernel))

/-- Four pieces of one shape stacked along the first axis, last first, read at an index. -/
theorem pieces_apply {n p q : ℕ} (v : View sig .tc .vmem ⟨3, ![n, p, q]⟩ .f32) (f : BufTy.Contents (Elt Ideal) v.ty)
    (inb : ∀ b, b < n → ∀ d : Fin 3, (![b, 0, 0] : Fin 3 → ℕ) d + (![1, p, q] : Fin 3 → ℕ) d ≤ (![n, p, q] : Fin 3 → ℕ) d)
    (w : ∀ b, b < n → (⟨3, ![1, p, q]⟩ : Shape).Idx → EReal) (L : List (View.Piece (Elt Ideal) ⟨3, ![n, p, q]⟩ .f32))
    (b c : ℕ) (hb : b < n) (hc : c < n) (i : Fin p) (j : Fin q) :
    v.read (Elt Ideal) (v.writes (Elt Ideal) f
      (⟨Rect.unit (s := ⟨3, ![n, p, q]⟩) ![c, 0, 0] ![1, p, q] (inb c hc), w c hc⟩ :: L)) (ix3 ⟨b, hb⟩ i j)
      = if b = c then w b hb (ix3 0 i j) else v.read (Elt Ideal) (v.writes (Elt Ideal) f L) (ix3 ⟨b, hb⟩ i j) := by
  by_cases h : b = c
  · subst h
    rw [if_pos rfl]
    refine View.read_writes_cons_unit_of_mem v _ (inb b hb) _ L _ (ix3 0 i j : (⟨3, ![1, p, q]⟩ : Shape).Idx) rfl ?_
    intro d
    match d with
    | ⟨0, _⟩ => show b = b + 0; omega
    | ⟨1, _⟩ => show i.val = 0 + i.val; omega
    | ⟨2, _⟩ => show j.val = 0 + j.val; omega
  · rw [if_neg h]
    refine View.read_writes_cons_unit_of_not_mem v _ (inb c hc) _ L _ rfl (0 : Fin 3) ?_
    show b < c ∨ c + 1 ≤ b
    omega

theorem four_apply {p q : ℕ} (v : View sig .tc .vmem ⟨3, ![4, p, q]⟩ .f32) (f : BufTy.Contents (Elt Ideal) v.ty)
    (inb : ∀ b, b < 4 → ∀ d : Fin 3, (![b, 0, 0] : Fin 3 → ℕ) d + (![1, p, q] : Fin 3 → ℕ) d ≤ (![4, p, q] : Fin 3 → ℕ) d)
    (w : ∀ b, b < 4 → (⟨3, ![1, p, q]⟩ : Shape).Idx → EReal) (b : ℕ) (hb : b < 4) (i : Fin p) (j : Fin q) :
    v.read (Elt Ideal) (v.writes (Elt Ideal) f
      [⟨Rect.unit (s := ⟨3, ![4, p, q]⟩) ![3, 0, 0] ![1, p, q] (inb 3 (by decide)), w 3 (by decide)⟩,
        ⟨Rect.unit (s := ⟨3, ![4, p, q]⟩) ![2, 0, 0] ![1, p, q] (inb 2 (by decide)), w 2 (by decide)⟩,
        ⟨Rect.unit (s := ⟨3, ![4, p, q]⟩) ![1, 0, 0] ![1, p, q] (inb 1 (by decide)), w 1 (by decide)⟩,
        ⟨Rect.unit (s := ⟨3, ![4, p, q]⟩) ![0, 0, 0] ![1, p, q] (inb 0 (by decide)), w 0 (by decide)⟩]) (ix3 ⟨b, hb⟩ i j)
      = w b hb (ix3 0 i j) := by
  rw [pieces_apply v f inb w _ b 3 hb (by decide) i j, pieces_apply v f inb w _ b 2 hb (by decide) i j,
    pieces_apply v f inb w _ b 1 hb (by decide) i j, pieces_apply v f inb w _ b 0 hb (by decide) i j]
  by_cases h3 : b = 3
  · rw [if_pos h3]
  · rw [if_neg h3]
    by_cases h2 : b = 2
    · rw [if_pos h2]
    · rw [if_neg h2]
      by_cases h1 : b = 1
      · rw [if_pos h1]
      · rw [if_neg h1, if_pos (by omega)]

/-- The overlap array at image `b`. -/
theorem found_apply (b : ℕ) (h : b < 4) (i j : Fin 384) :
    arg2.view.read (Elt Ideal) (found (F := Ideal) arg0 harg0 arg2 (staged x)) (ix3 ⟨b, h⟩ i j)
      = iou (cands (F := Ideal) arg0 harg0 (staged x) b h) (ix2 i j) :=
  (four_apply arg2.view arg2.view.junk square_inb (fun b h => shapeCast S1x384x384
    (iou (cands (F := Ideal) arg0 harg0 (staged x) b h)) shapeCasts_S384x384_S1x384x384) b h i j).trans
    (shapeCast_ab_1ab_apply _ _ _ _ _)

theorem slotted_apply (b : ℕ) (h : b < 4) (off : Fin k0_t2_loop.trips → Fin 3 → ℕ)
    (hoff : ∀ k, ∀ a, off k a + S1x16x384.size a ≤ S4x384x384.size a) (heq : ∀ k, off k = ![b, 16 * k.val, 0])
    (u : Fin 1) (e : Fin 20) (l : Fin 11) :
    slotted (F := Ideal) arg0 harg0 arg2 (staged x) b h off hoff (ix3 u e l) = Spec.result (entries x b) e.val l.val := by
  have hk := cands_has arg0 harg0 x b h
  unfold slotted
  rw [shapeCast_ab_1ab_apply]
  refine out_apply hk (keeps_last ?_) e l
  rw [show Scf.trips k0_t2_loop.lb k0_t2_loop.ub k0_t2_loop.st = 19 from by decide +kernel]
  refine keeps_apply _ _ (valid_apply hk) (fun k hk19 j q hj hq => ?_) 19 le_rfl
  have hlt : k < k0_t2_loop.trips := lt_of_lt_of_eq hk19 (show 19 = k0_t2_loop.trips by decide +kernel)
  unfold block
  have hr : 16 * k + j.val < 384 := by omega
  rw [dif_pos hlt, View.readAt_apply, ← iou_apply hk ⟨16 * k + j.val, hr⟩ q hj hq, ← found_apply arg0 harg0 arg2 x b h]
  congr 1
  funext d
  have hd := congrFun (heq ⟨k, hlt⟩)
  match d with
  | ⟨0, _⟩ => exact Fin.ext (show off ⟨k, hlt⟩ 0 + 1 * 0 = b by rw [hd]; rfl)
  | ⟨1, _⟩ => exact Fin.ext (show off ⟨k, hlt⟩ 1 + 1 * j.val = 16 * k + j.val by rw [hd, Nat.one_mul]; rfl)
  | ⟨2, _⟩ => exact Fin.ext (show off ⟨k, hlt⟩ 2 + 1 * q.val = q.val by rw [hd, Nat.one_mul]; exact Nat.zero_add _)

/-- The output at image `b`. -/
theorem written_apply (v : View sig .tc .vmem S4x20x11 .f32) (f : BufTy.Contents (Elt Ideal) v.ty) (b : ℕ) (h : b < 4) (e : Fin 20) (l : Fin 11) :
    v.read (Elt Ideal) (v.writes (Elt Ideal) f (written (F := Ideal) arg0 harg0 arg2 (staged x))) (ix3 ⟨b, h⟩ e l)
      = Spec.result (entries x b) e.val l.val := by
  refine (four_apply v f slots_inb (fun b h => if b = 3 then slotted (F := Ideal) arg0 harg0 arg2 (staged x) 3 (by decide) k0_off4 k0_off4_inb
    else if b = 2 then slotted (F := Ideal) arg0 harg0 arg2 (staged x) 2 (by decide) k0_off3 k0_off3_inb
    else if b = 1 then slotted (F := Ideal) arg0 harg0 arg2 (staged x) 1 (by decide) k0_off2 k0_off2_inb
    else slotted (F := Ideal) arg0 harg0 arg2 (staged x) 0 (by decide) k0_off1 k0_off1_inb) b h e l).trans ?_
  by_cases h3 : b = 3
  · subst h3
    rw [if_pos rfl]
    exact slotted_apply arg0 harg0 arg2 x 3 _ _ _ k0_off4_eq _ _ _
  · rw [if_neg h3]
    by_cases h2 : b = 2
    · subst h2
      rw [if_pos rfl]
      exact slotted_apply arg0 harg0 arg2 x 2 _ _ _ k0_off3_eq _ _ _
    · rw [if_neg h2]
      by_cases h1 : b = 1
      · subst h1
        rw [if_pos rfl]
        exact slotted_apply arg0 harg0 arg2 x 1 _ _ _ k0_off2_eq _ _ _
      · obtain rfl : b = 0 := by omega
        rw [if_neg (by decide)]
        exact slotted_apply arg0 harg0 arg2 x 0 _ _ _ k0_off1_eq _ _ _

end Body

variable (m : (ℓ : Loc nD τ sig) → Buf (Elt Ideal) ℓ)

theorem staged_eq (c : Dev nD) : V m c main_call0_v2 = staged (m ((c : Thread nD τ).loc main_arg0)) := by
  show StableHlo.after hostOps0 (fun b => m (c, b)) (Proc.devRef .tc main_call0_v2) = _
  after_results
  rfl

theorem iblk_eq (c : Dev nD) : iblk m c 0 only = staged (m ((c : Thread nD τ).loc main_arg0)) := by
  rw [← staged_eq]
  funext y
  unfold iblk
  rw [View.read_apply]
  refine congrArg (V m c main_call0_v2) ?_
  funext a
  apply Fin.ext
  show ((win0_0.rect only).emb y a : ℕ) = y a
  rw [Pipeline.Window.rect_emb_val_off]
  have hz : ∀ a : Fin 4, win0_0.kind.off (win0_0.index only a) (win0_0.size a) = 0 := by decide +kernel
  have := hz a
  omega

/-- The kernel's result at an index. -/
theorem outAt_apply (c : Dev nD) (b : Fin 4) (e : Fin 20) (l : Fin 11) :
    outAt m c only (ix3 b e l) = Spec.result (entries (m ((c : Thread nD τ).loc main_arg0)) b.val) e.val l.val := by
  unfold outAt
  rw [iblk_eq]
  exact written_apply _ _ _ _ _ _ b.val b.isLt e l

end Cert.Proof.KernelIdeal

end
-- ==== Proof.RefModel.lean ====
/- The reference's stages as functions of arrays. -/
module

public import proofs.«01_k».proof.Proof.ReferenceRun

@[expose] public section

set_option maxRecDepth 16384

noncomputable section

namespace Cert.Proof.RefModel

open Cert.ReferenceIdeal Cert.ReferenceIdeal.Gen Cert.ReferenceIdeal.Value
open Idealize.ShloMosaic
open Idealize.ShloMosaic.TcCoe

variable {F : FTy → Type} [FloatOps F]

/-! ## Each row: its class scores, the greatest, its class, its box -/

def boxed (x : FVec F S4x20000x14 .f32) : FVec F S4x20000x4 .f32 :=
  extractStridedSlice S4x20000x4 ![0, 0, 0] x slices_S4x20000x14_S4x20000x4_0_0_0

def conf (x : FVec F S4x20000x14 .f32) : FVec F S4x20000x9 .f32 :=
  mulf (broadcastInDim S4x20000x9 ![0, 1, 2] bcast_S4x20000x1_S4x20000x9_0_1_2
    (broadcastInDim S4x20000x1 ![0, 1] bcast_S4x20000_S4x20000x1_0_1
      (shapeCast S4x20000 (extractStridedSlice S4x20000x1 ![0, 0, 4] x slices_S4x20000x14_S4x20000x1_0_0_4)
        shapeCasts_S4x20000x1_S4x20000)))
    (extractStridedSlice S4x20000x9 ![0, 0, 5] x slices_S4x20000x14_S4x20000x9_0_0_5)

def best (v : FVec F S4x20000x9 .f32) : FVec F S4x20000 .f32 :=
  Host.reduce FloatOps.maximumf v (constant S_ .f32 0xFF800000#32) reducesTo_S4x20000x9_S4x20000_d2 h_S_

def cls (v : FVec F S4x20000x9 .f32) : IVec S4x20000 32 := fun j =>
  (Host.argReduce reducer_argmax_f32_i32 v (iotaInDim S4x20000x9 32 2) (constant S_ .f32 0xFF800000#32) (constantI S_ 32 0#32)
    reducesTo_S4x20000x9_S4x20000_d2 h_S_ j).2

/-- One column of the boxes. -/
def col (v : FVec F S4x20000x4 .f32) (k : ℕ) (h : S4x20000x4.Slices ![0, 0, k] S4x20000x1) : FVec F S4x20000 .f32 :=
  shapeCast S4x20000 (extractStridedSlice S4x20000x1 ![0, 0, k] v h) shapeCasts_S4x20000x1_S4x20000

def halved (v : FVec F S4x20000 .f32) : FVec F S4x20000 .f32 :=
  Host.divf v (broadcastInDim S4x20000 ![] bcast_S_S4x20000 (constant S_ .f32 0x40000000#32))

def tall (v : FVec F S4x20000 .f32) : FVec F S4x20000x1 .f32 :=
  broadcastInDim S4x20000x1 ![0, 1] bcast_S4x20000_S4x20000x1_0_1 v

def corners (v : FVec F S4x20000x4 .f32) : FVec F S4x20000x4 .f32 :=
  concatenate S4x20000x4 2
    [⟨S4x20000x1, tall (subf (col v 0 slices_S4x20000x4_S4x20000x1_0_0_0) (halved (col v 2 slices_S4x20000x4_S4x20000x1_0_0_2)))⟩,
      ⟨S4x20000x1, tall (subf (col v 1 slices_S4x20000x4_S4x20000x1_0_0_1) (halved (col v 3 slices_S4x20000x4_S4x20000x1_0_0_3)))⟩,
      ⟨S4x20000x1, tall (addf (col v 0 slices_S4x20000x4_S4x20000x1_0_0_0) (halved (col v 2 slices_S4x20000x4_S4x20000x1_0_0_2)))⟩,
      ⟨S4x20000x1, tall (addf (col v 1 slices_S4x20000x4_S4x20000x1_0_0_1) (halved (col v 3 slices_S4x20000x4_S4x20000x1_0_0_3)))⟩]
    concatenates_S4x20000x1_S4x20000x1_S4x20000x1_S4x20000x1_S4x20000x4_d2

def score (v : FVec F S4x20000 .f32) : FVec F S4x20000 .f32 :=
  select (cmpf .ogt v (broadcastInDim S4x20000 ![] bcast_S_S4x20000 (constant S_ .f32 0x3E800000#32))) v
    (broadcastInDim S4x20000 ![1] bcast_S20000_S4x20000_1 (broadcastInDim S20000 ![] bcast_S_S20000 (constant S_ .f32 0xBF800000#32)))

/-! ## The first 300 -/

def values (s : FVec F S4x20000 .f32) : FVec F S4x300 .f32 :=
  (Host.topK S4x300 1 (FloatOps.cmpfTotal .gt) s sliceFits_S4x20000_S4x300).1

def places (s : FVec F S4x20000 .f32) : IVec S4x300 32 :=
  (Host.topK S4x300 1 (FloatOps.cmpfTotal .gt) s sliceFits_S4x20000_S4x300).2

def wrapped (p : IVec S4x300 32) : IVec S4x300x1 32 :=
  broadcastInDim S4x300x1 ![0, 1] bcast_S4x300_S4x300x1_0_1
    (select (cmpi .slt p (broadcastInDim S4x300 ![] bcast_S_S4x300 (constantI S_ 32 0#32)))
      (addi p (broadcastInDim S4x300 ![] bcast_S_S4x300 (constantI S_ 32 20000#32))) p)

def takeBoxes (v : FVec F S4x20000x4 .f32) (p : IVec S4x300 32) : FVec F S4x300x4 .f32 :=
  Host.gather gather_S4x20000x4_S4x300x1_S4x300x4_2_1_0_0_1_2_114 v (wrapped p)

def takeRow {α : Type} (v : S4x20000.Idx → α) (p : IVec S4x300 32) : S4x300.Idx → α :=
  Host.gather gather_S4x20000_S4x300x1_S4x300_n_1_0_0_1_2_11 v (wrapped p)

def start (s : FVec F S4x300 .f32) : IVec S4x300 1 :=
  cmpf .ogt s (broadcastInDim S4x300 ![] bcast_S_S4x300 (constant S_ .f32 0x3E800000#32))

/-! ## Their overlaps -/

def upright {α : Type} (v : S4x300.Idx → α) : S4x300x1.Idx → α :=
  broadcastInDim S4x300x1 ![0, 1] bcast_S4x300_S4x300x1_0_1 v

def moved (b : FVec F S4x300x4 .f32) (k : IVec S4x300 32) : FVec F S4x300x4 .f32 :=
  addf b (broadcastInDim S4x300x4 ![0, 1, 2] bcast_S4x300x1_S4x300x4_0_1_2
    (upright (mulf (sitofp .f32 k) (broadcastInDim S4x300 ![] bcast_S_S4x300 (constant S_ .f32 0x46000000#32)))))

def side (b : FVec F S4x300x4 .f32) (k : ℕ) (h : S4x300x4.Slices ![0, 0, k] S4x300x1) : FVec F S4x300 .f32 :=
  shapeCast S4x300 (extractStridedSlice S4x300x1 ![0, 0, k] b h) shapeCasts_S4x300x1_S4x300

def area (b : FVec F S4x300x4 .f32) : FVec F S4x300 .f32 :=
  mulf (subf (side b 2 slices_S4x300x4_S4x300x1_0_0_2) (side b 0 slices_S4x300x4_S4x300x1_0_0_0))
    (subf (side b 3 slices_S4x300x4_S4x300x1_0_0_3) (side b 1 slices_S4x300x4_S4x300x1_0_0_1))

def asRow (v : FVec F S4x300x2 .f32) : FVec F S4x300x300x2 .f32 :=
  broadcastInDim S4x300x300x2 ![0, 1, 2, 3] bcast_S4x300x1x2_S4x300x300x2_0_1_2_3
    (broadcastInDim S4x300x1x2 ![0, 1, 3] bcast_S4x300x2_S4x300x1x2_0_1_3 v)

def asCol (v : FVec F S4x300x2 .f32) : FVec F S4x300x300x2 .f32 :=
  broadcastInDim S4x300x300x2 ![0, 1, 2, 3] bcast_S4x1x300x2_S4x300x300x2_0_1_2_3
    (broadcastInDim S4x1x300x2 ![0, 2, 3] bcast_S4x300x2_S4x1x300x2_0_2_3 v)

def extents (b : FVec F S4x300x4 .f32) : FVec F S4x300x300x2 .f32 :=
  subf (minimumf (asRow (extractStridedSlice S4x300x2 ![0, 0, 2] b slices_S4x300x4_S4x300x2_0_0_2))
      (asCol (extractStridedSlice S4x300x2 ![0, 0, 2] b slices_S4x300x4_S4x300x2_0_0_2)))
    (maximumf (asRow (extractStridedSlice S4x300x2 ![0, 0, 0] b slices_S4x300x4_S4x300x2_0_0_0))
      (asCol (extractStridedSlice S4x300x2 ![0, 0, 0] b slices_S4x300x4_S4x300x2_0_0_0)))

def clipped (v : FVec F S4x300x300x2 .f32) : FVec F S4x300x300x2 .f32 :=
  maximumf (broadcastInDim S4x300x300x2 ![] bcast_S_S4x300x300x2 (constant S_ .f32 0x00000000#32)) v

def plane (v : FVec F S4x300x300x2 .f32) (k : ℕ) (h : S4x300x300x2.Slices ![0, 0, 0, k] S4x300x300x1) : FVec F S4x300x300 .f32 :=
  shapeCast S4x300x300 (extractStridedSlice S4x300x300x1 ![0, 0, 0, k] v h) shapeCasts_S4x300x300x1_S4x300x300

def inter (v : FVec F S4x300x300x2 .f32) : FVec F S4x300x300 .f32 :=
  mulf (plane v 0 slices_S4x300x300x2_S4x300x300x1_0_0_0_0) (plane v 1 slices_S4x300x300x2_S4x300x300x1_0_0_0_1)

def iou (v : FVec F S4x300x300x2 .f32) (p q : FVec F S4x300 .f32) : FVec F S4x300x300 .f32 :=
  Host.divf (inter v) (addf (subf (addf
    (broadcastInDim S4x300x300 ![0, 1, 2] bcast_S4x300x1_S4x300x300_0_1_2 (upright p))
    (broadcastInDim S4x300x300 ![0, 1, 2] bcast_S4x1x300_S4x300x300_0_1_2
      (broadcastInDim S4x1x300 ![0, 2] bcast_S4x300_S4x1x300_0_2 q))) (inter v))
    (broadcastInDim S4x300x300 ![] bcast_S_S4x300x300 (constant S_ .f32 0x3089705F#32)))

def records (b : FVec F S4x300x4 .f32) (p : FVec F S4x300 .f32) (k : IVec S4x300 32) : FVec F S4x300x6 .f32 :=
  concatenate S4x300x6 2 [⟨S4x300x4, b⟩, ⟨S4x300x1, upright p⟩, ⟨S4x300x1, upright (sitofp .f32 k)⟩]
    concatenates_S4x300x4_S4x300x1_S4x300x1_S4x300x6_d2

/-! ## The kept ones packed -/

def counts (keep : IVec S4x300 1) : IVec S4x300 32 :=
  Host.reduceWindow IntOp.addi ![1, 300] ![1, 1] ![0, 299] ![0, 0] (extui 32 keep natLt_1_32)
    (broadcastInDim S_ ![] bcast_S_S_ (constantI S_ 32 0#32)) reduceWindows_S4x300_S4x300_w1s1p0_0_w300s1p299_0 h_S_

def rank (n : IVec S4x300 32) : IVec S4x300 32 := subi n (broadcastInDim S4x300 ![] bcast_S_S4x300 (constantI S_ 32 1#32))

def fits (keep : IVec S4x300 1) (r : IVec S4x300 32) : IVec S4x300 1 :=
  andi keep (cmpi .slt r (broadcastInDim S4x300 ![] bcast_S_S4x300 (constantI S_ 32 20#32)))

def target (fit : IVec S4x300 1) (r : IVec S4x300 32) : IVec S4x300 32 :=
  select fit r (broadcastInDim S4x300 ![] bcast_S_S4x300 (constantI S_ 32 20#32))

def masked (fit : IVec S4x300 1) (v : FVec F S4x300x6 .f32) : FVec F S4x300x6 .f32 :=
  select (broadcastInDim S4x300x6 ![0, 1, 2] bcast_S4x300x1_S4x300x6_0_1_2 (upright fit)) v
    (broadcastInDim S4x300x6 ![] bcast_S_S4x300x6 (constant S_ .f32 0x00000000#32))

def batch : IVec S4x1 32 := broadcastInDim S4x1 ![0] bcast_S4_S4x1_0 (iotaInDim S4 32 0)

def spots (i : IVec S4x1 32) (t : IVec S4x300 32) : IVec S4x300x2 32 :=
  concatenate S4x300x2 2
    [⟨S4x300x1, upright (broadcastInDim S4x300 ![0, 1] bcast_S4x1_S4x300_0_1
        (select (cmpi .slt i (broadcastInDim S4x1 ![] bcast_S_S4x1 (constantI S_ 32 0#32)))
          (addi i (broadcastInDim S4x1 ![] bcast_S_S4x1 (constantI S_ 32 4#32))) i))⟩,
      ⟨S4x300x1, upright (select (cmpi .slt t (broadcastInDim S4x300 ![] bcast_S_S4x300 (constantI S_ 32 0#32)))
          (addi t (broadcastInDim S4x300 ![] bcast_S_S4x300 (constantI S_ 32 20#32))) t)⟩]
    concatenates_S4x300x1_S4x300x1_S4x300x2_d2

def slots (p : IVec S4x300x2 32) (v : FVec F S4x300x6 .f32) : FVec F S4x20x6 .f32 :=
  Host.scatter scatter_S4x20x6_S4x300x2_S4x300x6_2_01_01_2 (fun _ b => b)
    (broadcastInDim S4x20x6 ![] bcast_S_S4x20x6 (constant S_ .f32 0x00000000#32)) p v

def slotPart (v : FVec F S4x20x6 .f32) (k : ℕ) (h : S4x20x6.Slices ![0, 0, k] S4x20x1) : FVec F S4x20x1 .f32 :=
  extractStridedSlice S4x20x1 ![0, 0, k] v h

def slotClass (v : FVec F S4x20x6 .f32) : IVec S4x20 32 :=
  fptosi 32 (shapeCast S4x20 (slotPart v 5 slices_S4x20x6_S4x20x1_0_0_5) shapeCasts_S4x20x1_S4x20)

def weighed (tab : FVec F S9x3 .f32) (v : FVec F S4x20x6 .f32) : FVec F S4x20x3 .f32 :=
  mulf (Host.gather gather_S9x3_S4x20x1_S4x20x3_2_0_n_n_0_2_13 tab
      (broadcastInDim S4x20x1 ![0, 1] bcast_S4x20_S4x20x1_0_1
        (select (cmpi .slt (slotClass v) (broadcastInDim S4x20 ![] bcast_S_S4x20 (constantI S_ 32 0#32)))
          (addi (slotClass v) (broadcastInDim S4x20 ![] bcast_S_S4x20 (constantI S_ 32 9#32))) (slotClass v))))
    (broadcastInDim S4x20x3 ![0, 1, 2] bcast_S4x20x1_S4x20x3_0_1_2 (slotPart v 4 slices_S4x20x6_S4x20x1_0_0_4))

def scaled (v : FVec F S4x20x6 .f32) : FVec F S4x20x4 .f32 :=
  Host.divf (extractStridedSlice S4x20x4 ![0, 0, 0] v slices_S4x20x6_S4x20x4_0_0_0)
    (broadcastInDim S4x20x4 ![] bcast_S_S4x20x4 (constant S_ .f32 0x43000000#32))

def out (t0 t1 : FVec F S9x3 .f32) (v : FVec F S4x20x6 .f32) : FVec F S4x20x11 .f32 :=
  concatenate S4x20x11 2 [⟨S4x20x4, scaled v⟩, ⟨S4x20x3, weighed t0 v⟩, ⟨S4x20x3, weighed t1 v⟩,
    ⟨S4x20x1, slotPart v 4 slices_S4x20x6_S4x20x1_0_0_4⟩] concatenates_S4x20x4_S4x20x3_S4x20x3_S4x20x1_S4x20x11_d2

end Cert.Proof.RefModel

end
-- ==== Proof.RefStages.lean ====
/- What each stretch of the reference's operations leaves in the buffers that later stretches read. -/
module

public import proofs.«01_k».proof.Proof.RefModel

@[expose] public section

set_option maxRecDepth 16384

noncomputable section

namespace Cert.Proof.RefModel

open Cert.ReferenceIdeal Cert.ReferenceIdeal.Gen Cert.ReferenceIdeal.Value
open Idealize.ShloMosaic Idealize.ShloMosaic.StableHlo
open Idealize.ShloMosaic.TcCoe

variable {F : FTy → Type} [FloatOps F]

variable (V : Valuation τ sig (Elt F))

theorem after_two (l l' : List (HloOp τ sig (Elt F))) : after (l ++ l') V = after l' (after l V) := by
  induction l generalizing V with
  | nil => rfl
  | cons op l ih => exact ih _

theorem after_take (ops : List (HloOp τ sig (Elt F))) (n : ℕ) (r : DevRef τ sig) (h : ∀ op ∈ ops.drop n, r ∉ op.writes) :
    after (ops.take n) V r = after ops V r := by
  conv_rhs => rw [← List.take_append_drop n ops, after_two]
  exact (after_of_forall_not_mem _ _ h).symm

/-- A buffer that only operation `n` writes from there on holds that operation's result. -/
theorem after_at (ops : List (HloOp τ sig (Elt F))) (n : ℕ) (hn : n < ops.length) (r : DevRef τ sig)
    (h : ∀ op ∈ ops.drop (n + 1), r ∉ op.writes) : after ops V r = (ops[n]'hn).result (after (ops.take n) V) r := by
  conv_lhs => rw [← List.take_append_drop n ops, after_two, List.drop_eq_getElem_cons hn]
  exact after_of_forall_not_mem _ _ h

/-! ## The rows -/

theorem boxed_stage : after hostOps0 V (Proc.devRef .tc main_v0) = boxed (V (Proc.devRef .tc main_arg0)) := by
  after_results
  rfl

theorem conf_stage : after hostOps0 V (Proc.devRef .tc main_v6) = conf (V (Proc.devRef .tc main_arg0)) := by
  after_results
  rfl

theorem best_stage : after hostOps0 V (Proc.devRef .tc main_v7) = best (conf (V (Proc.devRef .tc main_arg0))) := by
  after_results
  rfl

theorem cst_stage : after hostOps0 V (Proc.devRef .tc main_cst) = fun i => FloatOps.ofBits .f32 (lit0 (S9x3.rowMajor i)) := by
  after_results
  rfl

theorem cst_0_stage : after hostOps0 V (Proc.devRef .tc main_cst_0) = fun i => FloatOps.ofBits .f32 (lit1 (S9x3.rowMajor i)) := by
  after_results
  rfl

theorem cls_stage : after hostOps0_1 V (Proc.devRef .tc main_v8) = cls (V (Proc.devRef .tc main_v6)) := by
  after_results
  rfl

set_option maxHeartbeats 4000000 in
theorem corners_stage : after hostOps0_2 V (Proc.devRef .tc main_v33) = corners (V (Proc.devRef .tc main_v0)) := by
  rw [after_at V hostOps0_2 28 (by show 28 < 33; decide)]
  swap
  · intro op hop
    fin_cases hop <;> exact fun h => devRef_ne_of_ne (by decide) (Finset.mem_singleton.mp h)
  have g : ∀ W : Valuation τ sig (Elt F), (hostOps0_2[28]'(by show 28 < 33; decide)).result W (Proc.devRef .tc main_v33)
      = concatenate S4x20000x4 2 [⟨S4x20000x1, W (Proc.devRef .tc main_v29)⟩, ⟨S4x20000x1, W (Proc.devRef .tc main_v30)⟩,
        ⟨S4x20000x1, W (Proc.devRef .tc main_v31)⟩, ⟨S4x20000x1, W (Proc.devRef .tc main_v32)⟩]
        concatenates_S4x20000x1_S4x20000x1_S4x20000x1_S4x20000x1_S4x20000x4_d2 := fun W => by
    simp only [hostOps0_2, List.getElem_cons_succ, List.getElem_cons_zero]
    exact nary_result _ _ _ _ _ _
  have k : ∀ r ∈ [main_v29, main_v30, main_v31, main_v32], after (hostOps0_2.take 28) V (Proc.devRef .tc r) = after hostOps0_2 V (Proc.devRef .tc r) := by
    intro r hr
    refine after_take V hostOps0_2 28 _ fun op hop => ?_
    fin_cases hr <;> fin_cases hop <;> exact fun h => devRef_ne_of_ne (by decide) (Finset.mem_singleton.mp h)
  have h29 : after hostOps0_2 V (Proc.devRef .tc main_v29) = tall (subf (col (V (Proc.devRef .tc main_v0)) 0 slices_S4x20000x4_S4x20000x1_0_0_0) (halved (col (V (Proc.devRef .tc main_v0)) 2 slices_S4x20000x4_S4x20000x1_0_0_2))) := by
    after_results
    rfl
  have h30 : after hostOps0_2 V (Proc.devRef .tc main_v30) = tall (subf (col (V (Proc.devRef .tc main_v0)) 1 slices_S4x20000x4_S4x20000x1_0_0_1) (halved (col (V (Proc.devRef .tc main_v0)) 3 slices_S4x20000x4_S4x20000x1_0_0_3))) := by
    after_results
    rfl
  have h31 : after hostOps0_2 V (Proc.devRef .tc main_v31) = tall (addf (col (V (Proc.devRef .tc main_v0)) 0 slices_S4x20000x4_S4x20000x1_0_0_0) (halved (col (V (Proc.devRef .tc main_v0)) 2 slices_S4x20000x4_S4x20000x1_0_0_2))) := by
    after_results
    rfl
  have h32 : after hostOps0_2 V (Proc.devRef .tc main_v32) = tall (addf (col (V (Proc.devRef .tc main_v0)) 1 slices_S4x20000x4_S4x20000x1_0_0_1) (halved (col (V (Proc.devRef .tc main_v0)) 3 slices_S4x20000x4_S4x20000x1_0_0_3))) := by
    after_results
    rfl
  rw [g, k _ (by decide), k _ (by decide), k _ (by decide), k _ (by decide), h29, h30, h31, h32]
  rfl

/-- The scores, over the two stretches that compute them. -/
theorem score_stage : after hostOps0_3 (after hostOps0_2 V) (Proc.devRef .tc main_v36) = score (V (Proc.devRef .tc main_v7)) := by
  have h : ∀ W : Valuation τ sig (Elt F), after hostOps0_3 W (Proc.devRef .tc main_v36)
      = select (W (Proc.devRef .tc main_v35)) (W (Proc.devRef .tc main_v7)) (broadcastInDim S4x20000 ![1] bcast_S20000_S4x20000_1
        (broadcastInDim S20000 ![] bcast_S_S20000 (W (Proc.devRef .tc main_cst_7)))) := fun W => by
    after_results
    rfl
  have h7 : after hostOps0_2 V (Proc.devRef .tc main_cst_7) = constant S_ .f32 0xBF800000#32 := by after_results
  have h35 : after hostOps0_2 V (Proc.devRef .tc main_v35) = cmpf .ogt (V (Proc.devRef .tc main_v7)) (broadcastInDim S4x20000 ![] bcast_S_S4x20000 (constant S_ .f32 0x3E800000#32)) := by after_results
  rw [h, h7, h35, after_of_writes_sub hostOps0_2 V hostOps0_2_writes (by decide +kernel)]
  rfl

/-! ## The candidates -/

abbrev at_ := places (V (Proc.devRef .tc main_v36))

set_option maxHeartbeats 4000000 in
theorem boxes_stage : after hostOps0_4 V (Proc.devRef .tc main_v43) = takeBoxes (V (Proc.devRef .tc main_v33)) (at_ V) := by
  after_results
  rfl

set_option maxHeartbeats 4000000 in
theorem probs_stage : after hostOps0_4 V (Proc.devRef .tc main_v50) = takeRow (V (Proc.devRef .tc main_v7)) (at_ V) := by
  after_results
  rfl

set_option maxHeartbeats 4000000 in
theorem classes_stage : after hostOps0_4 V (Proc.devRef .tc main_v57) = takeRow (V (Proc.devRef .tc main_v8)) (at_ V) := by
  after_results
  rfl

set_option maxHeartbeats 4000000 in
theorem start_stage : after hostOps0_4 V (Proc.devRef .tc main_v59) = start (values (V (Proc.devRef .tc main_v36))) := by
  after_results
  rfl

abbrev moved_ := moved (takeBoxes (V (Proc.devRef .tc main_v33)) (at_ V)) (takeRow (V (Proc.devRef .tc main_v8)) (at_ V))

set_option maxHeartbeats 4000000 in
theorem area_stage : after hostOps0_4 V (Proc.devRef .tc main_v76) = area (moved_ V) := by
  after_results
  rfl

set_option maxHeartbeats 4000000 in
theorem area'_stage : after hostOps0_4 V (Proc.devRef .tc main_v87) = area (moved_ V) := by
  after_results
  rfl

/-- The overlaps' extents, over the two stretches that compute them. -/
theorem extents_stage : after hostOps0_5 (after hostOps0_4 V) (Proc.devRef .tc main_v103) = clipped (extents (moved_ V)) := by
  have h : ∀ W : Valuation τ sig (Elt F), after hostOps0_5 W (Proc.devRef .tc main_v103)
      = maximumf (broadcastInDim S4x300x300x2 ![] bcast_S_S4x300x300x2 (W (Proc.devRef .tc main_cst_15))) (W (Proc.devRef .tc main_v102)) := fun W => by
    after_results
    rfl
  have h15 : after hostOps0_4 V (Proc.devRef .tc main_cst_15) = constant S_ .f32 0x00000000#32 := by after_results
  have h102 : after hostOps0_4 V (Proc.devRef .tc main_v102) = extents (moved_ V) := by
    after_results
    rfl
  rw [h, h15, h102]
  rfl

theorem iou_stage : after hostOps0_6 V (Proc.devRef .tc main_v123_0)
    = iou (V (Proc.devRef .tc main_v103)) (V (Proc.devRef .tc main_v76)) (V (Proc.devRef .tc main_v87)) := by
  after_results
  rfl

theorem numbers_stage : after hostOps0_6 V (Proc.devRef .tc main_v123_1) = iotaInDim S300 32 0 := by
  after_results
  rfl

theorem first_stage : after hostOps0_6 V (Proc.devRef .tc main_v123_3) = constantI S_ 32 0#32 := by
  after_results
  rfl

theorem init_stage : after hostOps0_6 V (Proc.devRef .tc main_v123_4) = V (Proc.devRef .tc main_v59) := by
  after_results
  rfl

theorem records_stage : after hostOps0_6 V (Proc.devRef .tc main_v121)
    = records (V (Proc.devRef .tc main_v43)) (V (Proc.devRef .tc main_v50)) (V (Proc.devRef .tc main_v57)) := by
  rw [after_at V hostOps0_6 18 (by show 18 < 27; decide)]
  swap
  · intro op hop
    fin_cases hop <;> exact fun h => devRef_ne_of_ne (by decide) (Finset.mem_singleton.mp h)
  have g : ∀ W : Valuation τ sig (Elt F), (hostOps0_6[18]'(by show 18 < 27; decide)).result W (Proc.devRef .tc main_v121)
      = concatenate S4x300x6 2 [⟨S4x300x4, W (Proc.devRef .tc main_v43)⟩, ⟨S4x300x1, W (Proc.devRef .tc main_v118)⟩,
        ⟨S4x300x1, W (Proc.devRef .tc main_v120)⟩] concatenates_S4x300x4_S4x300x1_S4x300x1_S4x300x6_d2 := fun W => by
    simp only [hostOps0_6, List.getElem_cons_succ, List.getElem_cons_zero]
    exact nary_result _ _ _ _ _ _
  have k : ∀ r ∈ [main_v43, main_v118, main_v120], after (hostOps0_6.take 18) V (Proc.devRef .tc r) = after hostOps0_6 V (Proc.devRef .tc r) := by
    intro r hr
    refine after_take V hostOps0_6 18 _ fun op hop => ?_
    fin_cases hr <;> fin_cases hop <;> exact fun h => devRef_ne_of_ne (by decide) (Finset.mem_singleton.mp h)
  have h118 : after hostOps0_6 V (Proc.devRef .tc main_v118) = upright (V (Proc.devRef .tc main_v50)) := by
    after_results
    rfl
  have h120 : after hostOps0_6 V (Proc.devRef .tc main_v120) = upright (sitofp .f32 (V (Proc.devRef .tc main_v57))) := by
    after_results
    rfl
  rw [g, k _ (by decide), k _ (by decide), k _ (by decide), h118, h120,
    after_of_writes_sub hostOps0_6 V hostOps0_6_writes (by decide +kernel)]
  rfl

/-! ## The slots -/

theorem counts_stage : after hostOps0_7 V (Proc.devRef .tc main_v124) = counts (V (Proc.devRef .tc main_v123_4)) := by
  after_results
  unfold counts
  congr 1

theorem rank_stage : after hostOps0_8 V (Proc.devRef .tc main_v126) = rank (V (Proc.devRef .tc main_v124)) := by
  after_results
  rfl

theorem fits_stage : after hostOps0_8 V (Proc.devRef .tc main_v129)
    = fits (V (Proc.devRef .tc main_v123_4)) (rank (V (Proc.devRef .tc main_v124))) := by
  after_results
  rfl

theorem zeros_stage : after hostOps0_8 V (Proc.devRef .tc main_v130)
    = broadcastInDim S4x20x6 ![] bcast_S_S4x20x6 (constant S_ .f32 0x00000000#32) := by
  after_results

theorem batch_stage : after hostOps0_8 V (Proc.devRef .tc main_v132) = batch := by
  after_results
  rfl

theorem twenty_stage : after hostOps0_8 V (Proc.devRef .tc main_c_22) = constantI S_ 32 20#32 := by
  after_results

theorem target_stage : after hostOps0_9 V (Proc.devRef .tc main_v133)
    = select (V (Proc.devRef .tc main_v129)) (V (Proc.devRef .tc main_v126)) (broadcastInDim S4x300 ![] bcast_S_S4x300 (V (Proc.devRef .tc main_c_22))) := by
  after_results
  rfl

theorem upright_stage : after hostOps0_10 V (Proc.devRef .tc main_v134) = upright (V (Proc.devRef .tc main_v129)) := by
  after_results
  rfl

theorem none_stage : after hostOps0_10 V (Proc.devRef .tc main_cst_23) = constant S_ .f32 0x00000000#32 := by
  after_results

theorem masked_stage : after hostOps0_11 V (Proc.devRef .tc main_v135)
    = select (broadcastInDim S4x300x6 ![0, 1, 2] bcast_S4x300x1_S4x300x6_0_1_2 (V (Proc.devRef .tc main_v134))) (V (Proc.devRef .tc main_v121))
      (broadcastInDim S4x300x6 ![] bcast_S_S4x300x6 (V (Proc.devRef .tc main_cst_23))) := by
  after_results
  rfl

/-- The slots the scatter leaves. -/
abbrev slots_ := Host.scatter scatter_S4x20x6_S4x300x2_S4x300x6_2_01_01_2 (fun _ b => b) (V (Proc.devRef .tc main_v130))
  (spots (V (Proc.devRef .tc main_v132)) (V (Proc.devRef .tc main_v133))) (V (Proc.devRef .tc main_v135))

set_option maxHeartbeats 4000000 in
theorem out_stage : after hostOps0_12 V (Proc.devRef .tc main_v176)
    = out (V (Proc.devRef .tc main_cst)) (V (Proc.devRef .tc main_cst_0)) (slots_ V) := by
  rw [after_at V hostOps0_12 49 (by show 49 < 50; decide)]
  swap
  · intro op hop
    fin_cases hop
  have g : ∀ W : Valuation τ sig (Elt F), (hostOps0_12[49]'(by show 49 < 50; decide)).result W (Proc.devRef .tc main_v176)
      = concatenate S4x20x11 2 [⟨S4x20x4, W (Proc.devRef .tc main_v175)⟩, ⟨S4x20x3, W (Proc.devRef .tc main_v163)⟩,
        ⟨S4x20x3, W (Proc.devRef .tc main_v172)⟩, ⟨S4x20x1, W (Proc.devRef .tc main_v154)⟩]
        concatenates_S4x20x4_S4x20x3_S4x20x3_S4x20x1_S4x20x11_d2 := fun W => by
    simp only [hostOps0_12, List.getElem_cons_succ, List.getElem_cons_zero]
    exact nary_result _ _ _ _ _ _
  have k : ∀ r ∈ [main_v175, main_v163, main_v172, main_v154], after (hostOps0_12.take 49) V (Proc.devRef .tc r) = after hostOps0_12 V (Proc.devRef .tc r) := by
    intro r hr
    refine after_take V hostOps0_12 49 _ fun op hop => ?_
    fin_cases hr <;> fin_cases hop <;> exact fun h => devRef_ne_of_ne (by decide) (Finset.mem_singleton.mp h)
  have h175 : after hostOps0_12 V (Proc.devRef .tc main_v175) = scaled (slots_ V) := by
    after_results
    rfl
  have h163 : after hostOps0_12 V (Proc.devRef .tc main_v163) = weighed (V (Proc.devRef .tc main_cst)) (slots_ V) := by
    after_results
    rfl
  have h172 : after hostOps0_12 V (Proc.devRef .tc main_v172) = weighed (V (Proc.devRef .tc main_cst_0)) (slots_ V) := by
    after_results
    rfl
  have h154 : after hostOps0_12 V (Proc.devRef .tc main_v154) = slotPart (slots_ V) 4 slices_S4x20x6_S4x20x1_0_0_4 := by
    after_results
    rfl
  rw [g, k _ (by decide), k _ (by decide), k _ (by decide), k _ (by decide), h175, h163, h172, h154]
  rfl

end Cert.Proof.RefModel

end
-- ==== Proof.RefChain.lean ====
/- The reference's result as one function of its argument and of the loop's last state. -/
module

public import proofs.«01_k».proof.Proof.RefStages

@[expose] public section

set_option maxRecDepth 16384

noncomputable section

namespace Cert.Proof.RefModel

open Cert.ReferenceIdeal Cert.ReferenceIdeal.Gen Cert.ReferenceIdeal.Value Cert.Proof.ReferenceIdeal
open Idealize.ShloMosaic Idealize.ShloMosaic.StableHlo
open Idealize.ShloMosaic.TcCoe

variable {F : FTy → Type} [FloatOps F]

/-! ## The stages of one argument -/

section Stages
variable (x : FVec F S4x20000x14 .f32)

def bestOf : FVec F S4x20000 .f32 := best (conf x)
def scoreOf : FVec F S4x20000 .f32 := score (bestOf x)
def placesOf : IVec S4x300 32 := places (scoreOf x)
def boxesOf : FVec F S4x300x4 .f32 := takeBoxes (corners (boxed x)) (placesOf x)
def probsOf : FVec F S4x300 .f32 := takeRow (bestOf x) (placesOf x)
def classesOf : IVec S4x300 32 := takeRow (cls (conf x)) (placesOf x)
def movedOf : FVec F S4x300x4 .f32 := moved (boxesOf x) (classesOf x)
def iouOf : FVec F S4x300x300 .f32 := iou (clipped (extents (movedOf x))) (area (movedOf x)) (area (movedOf x))
def startOf : IVec S4x300 1 := start (values (scoreOf x))
def recordsOf : FVec F S4x300x6 .f32 := records (boxesOf x) (probsOf x) (classesOf x)

end Stages

def table0 : FVec F S9x3 .f32 := fun i => FloatOps.ofBits .f32 (lit0 (S9x3.rowMajor i))
def table1 : FVec F S9x3 .f32 := fun i => FloatOps.ofBits .f32 (lit1 (S9x3.rowMajor i))

/-- The slots of the kept candidates. -/
def slotsOf (keep : IVec S4x300 1) (v : FVec F S4x300x6 .f32) : FVec F S4x20x6 .f32 :=
  slots (spots batch (target (fits keep (rank (counts keep))) (rank (counts keep))))
    (masked (fits keep (rank (counts keep))) v)

variable (m : (ℓ : Loc nD τ sig) → Buf (Elt F) ℓ) (c : Dev nD)

/-! ## When the loop is entered -/

abbrev arg : FVec F S4x20000x14 .f32 := m ((c.tc : Thread nD τ).loc main_arg0)

abbrev V1 : Valuation τ sig (Elt F) := after hostOps0 (fun b => m (c, b))
abbrev V2 : Valuation τ sig (Elt F) := after hostOps0_1 (V1 m c)
abbrev V3 : Valuation τ sig (Elt F) := after hostOps0_2 (V2 m c)
abbrev V4 : Valuation τ sig (Elt F) := after hostOps0_3 (V3 m c)
abbrev V5 : Valuation τ sig (Elt F) := after hostOps0_4 (V4 m c)
abbrev V6 : Valuation τ sig (Elt F) := after hostOps0_5 (V5 m c)

theorem entry_eq : entry m c = after hostOps0_6 (V6 m c) := by
  simp only [entry, entryContents, preI, afterL_cons, afterL_nil]

theorem best_at : V2 m c (Proc.devRef .tc main_v7) = bestOf (arg m c) := by
  rw [V2, after_of_writes_sub _ _ hostOps0_1_writes (by decide +kernel)]
  exact best_stage _

theorem score_at : V4 m c (Proc.devRef .tc main_v36) = scoreOf (arg m c) := by
  rw [V4, V3, score_stage, best_at]; rfl

theorem best_at4 : V4 m c (Proc.devRef .tc main_v7) = bestOf (arg m c) := by
  rw [V4, V3, after_of_writes_sub _ _ hostOps0_3_writes (by decide +kernel),
    after_of_writes_sub _ _ hostOps0_2_writes (by decide +kernel), best_at]

theorem cls_at4 : V4 m c (Proc.devRef .tc main_v8) = cls (conf (arg m c)) := by
  rw [V4, V3, after_of_writes_sub _ _ hostOps0_3_writes (by decide +kernel),
    after_of_writes_sub _ _ hostOps0_2_writes (by decide +kernel), V2, cls_stage, V1, conf_stage]

theorem corners_at4 : V4 m c (Proc.devRef .tc main_v33) = corners (boxed (arg m c)) := by
  rw [V4, after_of_writes_sub _ _ hostOps0_3_writes (by decide +kernel), V3, corners_stage, V2,
    after_of_writes_sub _ _ hostOps0_1_writes (by decide +kernel), V1, boxed_stage]

theorem moved_at : moved_ (V4 m c) = movedOf (arg m c) := by
  unfold moved_ at_
  rw [score_at, corners_at4, cls_at4]; rfl

theorem keep6 (r : Ref sig .tc) (h : r ∉ hostOps0_5_W) : V6 m c (Proc.devRef .tc r) = V5 m c (Proc.devRef .tc r) := by
  rw [V6, after_of_writes_sub _ _ hostOps0_5_writes h]

theorem entry_iou : entry m c (Proc.devRef .tc main_v123_0) = iouOf (arg m c) := by
  rw [entry_eq, iou_stage, keep6 m c main_v76 (by decide +kernel), keep6 m c main_v87 (by decide +kernel), V6, V5, extents_stage, area_stage, area'_stage, moved_at]; rfl

theorem entry_numbers : entry m c (Proc.devRef .tc main_v123_1) = iotaInDim S300 32 0 := by rw [entry_eq, numbers_stage]
theorem entry_first : entry m c (Proc.devRef .tc main_v123_3) = constantI S_ 32 0#32 := by rw [entry_eq, first_stage]

theorem entry_start : entry m c (Proc.devRef .tc main_v123_4) = startOf (arg m c) := by
  rw [entry_eq, init_stage, keep6 m c main_v59 (by decide +kernel), V5, start_stage, score_at]; rfl

theorem entry_records : entry m c (Proc.devRef .tc main_v121) = recordsOf (arg m c) := by
  rw [entry_eq, records_stage, keep6 m c main_v43 (by decide +kernel), keep6 m c main_v50 (by decide +kernel), keep6 m c main_v57 (by decide +kernel), V5, boxes_stage, probs_stage, classes_stage]
  unfold at_
  rw [score_at, best_at4, cls_at4, corners_at4]; rfl

theorem entry_cst : entry m c (Proc.devRef .tc main_cst) = table0 := by
  rw [entry_eq, after_of_writes_sub _ _ hostOps0_6_writes (by decide +kernel),
    V6, after_of_writes_sub _ _ hostOps0_5_writes (by decide +kernel),
    V5, after_of_writes_sub _ _ hostOps0_4_writes (by decide +kernel),
    V4, after_of_writes_sub _ _ hostOps0_3_writes (by decide +kernel),
    V3, after_of_writes_sub _ _ hostOps0_2_writes (by decide +kernel),
    V2, after_of_writes_sub _ _ hostOps0_1_writes (by decide +kernel), V1, cst_stage]
  rfl

theorem entry_cst_0 : entry m c (Proc.devRef .tc main_cst_0) = table1 := by
  rw [entry_eq, after_of_writes_sub _ _ hostOps0_6_writes (by decide +kernel),
    V6, after_of_writes_sub _ _ hostOps0_5_writes (by decide +kernel),
    V5, after_of_writes_sub _ _ hostOps0_4_writes (by decide +kernel),
    V4, after_of_writes_sub _ _ hostOps0_3_writes (by decide +kernel),
    V3, after_of_writes_sub _ _ hostOps0_2_writes (by decide +kernel),
    V2, after_of_writes_sub _ _ hostOps0_1_writes (by decide +kernel), V1, cst_0_stage]
  rfl

/-! ## When it is left -/

/-- A buffer the loop does not write. -/
theorem left_keeps (r : Ref sig .tc) (hr : r ∈ [main_v121, main_cst, main_cst_0]) :
    left m c (Proc.devRef .tc r) = entry m c (Proc.devRef .tc r) := by
  have hb : ∀ V : Valuation τ sig (Elt F), afterL bodyI V (Proc.devRef .tc r) = V (Proc.devRef .tc r) := fun V => by
    rw [afterL_eq_after_flatten]
    refine after_of_forall_not_mem _ V fun op hop => ?_
    fin_cases hr <;> fin_cases hop <;> exact fun h => devRef_ne_of_ne (by decide) (Finset.mem_singleton.mp h)
  have hc : ∀ V : Valuation τ sig (Elt F), after condOps V (Proc.devRef .tc r) = V (Proc.devRef .tc r) := fun V => by
    refine after_of_forall_not_mem _ V fun op hop => ?_
    fin_cases hr <;> fin_cases hop <;> exact fun h => devRef_ne_of_ne (by decide) (Finset.mem_singleton.mp h)
  have hk : ∀ k : ℕ, atK m k c (Proc.devRef .tc r) = entry m c (Proc.devRef .tc r) := fun k => by
    induction k with
    | zero => rfl
    | succ k ih =>
      show afterL bodyI (after condOps (atK m k c)) _ = _
      rw [hb, hc, ih]
  rw [left, hc, hk]

/-- The candidates kept when the loop is left. -/
def keepOf : IVec S4x300 1 := (STEP^[300] (entry m c)) (Proc.devRef .tc main_v123_4)

theorem left_keep : left m c (Proc.devRef .tc main_v123_4) = keepOf m c := by
  rw [left, cond_keeps _ main_v123_4 (by decide), atK_agree m c 300 main_v123_4 (by decide)]
  rfl

theorem post_eq (V : Valuation τ sig (Elt F)) : afterL postI V (Proc.devRef .tc main_v176)
    = out (V (Proc.devRef .tc main_cst)) (V (Proc.devRef .tc main_cst_0))
      (slotsOf (V (Proc.devRef .tc main_v123_4)) (V (Proc.devRef .tc main_v121))) := by
  have k7 : ∀ W : Valuation τ sig (Elt F), ∀ r ∈ [main_cst, main_cst_0, main_v121, main_v123_4], after hostOps0_7 W (Proc.devRef .tc r) = W (Proc.devRef .tc r) := by
    intro W r hr
    refine after_of_forall_not_mem _ W fun op hop => ?_
    fin_cases hr <;> fin_cases hop <;> exact fun h => devRef_ne_of_ne (by decide) (Finset.mem_singleton.mp h)
  have k8 : ∀ W : Valuation τ sig (Elt F), ∀ r ∈ [main_cst, main_cst_0, main_v121], after hostOps0_8 W (Proc.devRef .tc r) = W (Proc.devRef .tc r) := by
    intro W r hr
    refine after_of_forall_not_mem _ W fun op hop => ?_
    fin_cases hr <;> fin_cases hop <;> exact fun h => devRef_ne_of_ne (by decide) (Finset.mem_singleton.mp h)
  have k9 : ∀ W : Valuation τ sig (Elt F), ∀ r ∈ [main_cst, main_cst_0, main_v121, main_v129, main_v130, main_v132], after hostOps0_9 W (Proc.devRef .tc r) = W (Proc.devRef .tc r) := by
    intro W r hr
    refine after_of_forall_not_mem _ W fun op hop => ?_
    fin_cases hr <;> fin_cases hop <;> exact fun h => devRef_ne_of_ne (by decide) (Finset.mem_singleton.mp h)
  have k10 : ∀ W : Valuation τ sig (Elt F), ∀ r ∈ [main_cst, main_cst_0, main_v121, main_v130, main_v132, main_v133], after hostOps0_10 W (Proc.devRef .tc r) = W (Proc.devRef .tc r) := by
    intro W r hr
    refine after_of_forall_not_mem _ W fun op hop => ?_
    fin_cases hr <;> fin_cases hop <;> exact fun h => devRef_ne_of_ne (by decide) (Finset.mem_singleton.mp h)
  have k11 : ∀ W : Valuation τ sig (Elt F), ∀ r ∈ [main_cst, main_cst_0, main_v130, main_v132, main_v133], after hostOps0_11 W (Proc.devRef .tc r) = W (Proc.devRef .tc r) := by
    intro W r hr
    refine after_of_forall_not_mem _ W fun op hop => ?_
    fin_cases hr <;> fin_cases hop <;> exact fun h => devRef_ne_of_ne (by decide) (Finset.mem_singleton.mp h)
  simp only [postI, afterL_cons, afterL_nil]
  rw [out_stage]
  unfold slots_
  rw [masked_stage, k11 _ main_cst (by decide), k11 _ main_cst_0 (by decide), k11 _ main_v130 (by decide), k11 _ main_v132 (by decide), k11 _ main_v133 (by decide),
    upright_stage, none_stage, k10 _ main_cst (by decide), k10 _ main_cst_0 (by decide), k10 _ main_v130 (by decide), k10 _ main_v132 (by decide), k10 _ main_v133 (by decide), k10 _ main_v121 (by decide),
    target_stage, k9 _ main_cst (by decide), k9 _ main_cst_0 (by decide), k9 _ main_v121 (by decide), k9 _ main_v129 (by decide), k9 _ main_v130 (by decide), k9 _ main_v132 (by decide),
    rank_stage, fits_stage, zeros_stage, batch_stage, twenty_stage, k8 _ main_cst (by decide), k8 _ main_cst_0 (by decide), k8 _ main_v121 (by decide),
    counts_stage, k7 _ main_cst (by decide), k7 _ main_cst_0 (by decide), k7 _ main_v121 (by decide), k7 _ main_v123_4 (by decide)]
  rfl

/-- The reference's result. -/
theorem result_eq : afterL postI (left m c) (Proc.devRef .tc main_v176)
    = out table0 table1 (slotsOf (keepOf m c) (recordsOf (arg m c))) := by
  rw [post_eq, left_keep, left_keeps m c main_cst (by decide), left_keeps m c main_cst_0 (by decide), left_keeps m c main_v121 (by decide),
    entry_cst, entry_cst_0, entry_records]

end Cert.Proof.RefModel

end
-- ==== Proof.RefWords.lean ====
/- Small words read as numbers. -/
module

public import proofs.«01_k».proof.Proof.RefChain
public import Idealize.ShloMosaic.Lib.WordCmp

@[expose] public section

namespace Cert.Proof.RefModel

open Idealize.ShloMosaic

theorem word_toInt (k : ℕ) (hk : k < 2 ^ 31) : (BitVec.ofNat 32 k).toInt = (k : Int) := WordCmp.toInt_ofNat_of_lt (by norm_num; omega)

/-- A word below `2 ^ 31` is not negative. -/
theorem not_neg (k : ℕ) (hk : k < 2 ^ 31) (x : BitVec 32) :
    Scalar.select (IntOp.cmpi .slt (BitVec.ofNat 32 k) 0#32) x (BitVec.ofNat 32 k) = BitVec.ofNat 32 k := by
  have h : (BitVec.ofNat 32 k).slt 0#32 = false := by
    have : (BitVec.ofNat 32 k).slt 0#32 = decide ((BitVec.ofNat 32 k).toInt < (0#32).toInt) := rfl
    rw [this, word_toInt k hk]
    simp
  have h' : IntOp.cmpi .slt (BitVec.ofNat 32 k) 0#32 = BitVec.ofBool ((BitVec.ofNat 32 k).slt 0#32) := rfl
  rw [h', h]
  rfl

end Cert.Proof.RefModel
-- ==== Proof.RefRows.lean ====
/- The reference's rows, read at an index: class scores, the best and its class, corners, scores. -/
module

public import proofs.«01_k».proof.Proof.RefChain
public import proofs.«01_k».proof.Proof.RefWords
public import proofs.«01_k».proof.Proof.Planes
public import Idealize.ShloMosaic.Lib.Pointwise

@[expose] public section

set_option maxRecDepth 16384

noncomputable section

namespace Cert.Proof.RefModel

open Cert.ReferenceIdeal Cert.ReferenceIdeal.Gen
open Idealize.ShloMosaic
open Idealize.ShloMosaic.TcCoe
open Cert.Proof.Planes (select_ogt select_oeq float_word)

/-- Image `b` of the input is `a`. -/
def Reads (x : FVec Ideal S4x20000x14 .f32) (b : Fin 4) (a : ℕ → ℕ → EReal) : Prop :=
  ∀ (n : Fin 20000) (i : Fin 14), x (ix3 b n i) = a n.val i.val

variable {x : FVec Ideal S4x20000x14 .f32} {b : Fin 4} {a : ℕ → ℕ → EReal}

theorem conf_apply (hx : Reads x b a) (n : Fin 20000) (k : Fin 9) : conf x (ix3 b n k) = Spec.conf a n.val k.val := by
  pointwise [conf]
  rw [hx, hx]
  rfl

theorem boxed_apply (hx : Reads x b a) (n : Fin 20000) (k : Fin 4) : boxed x (ix3 b n k) = a n.val k.val := by
  pointwise [boxed]
  exact hx _ _

theorem corners_apply (hx : Reads x b a) (n : Fin 20000) (k : Fin 4) : corners (boxed x) (ix3 b n k) = Spec.corner a n.val k.val := by
  have h : ∀ v : FVec Ideal S4x20000x4 .f32, corners v (ix3 b n k) = if k.val < 2 then v (ix3 b n ⟨k.val % 2, by omega⟩)
      - Ideal.div (v (ix3 b n ⟨2 + k.val % 2, by omega⟩)) (Ideal.ofBits .f32 0x40000000#32)
      else v (ix3 b n ⟨k.val % 2, by omega⟩) + Ideal.div (v (ix3 b n ⟨2 + k.val % 2, by omega⟩)) (Ideal.ofBits .f32 0x40000000#32) := fun v => by
    pointwise [corners, tall, halved, col]
    fin_cases k <;> simp
  rw [h, boxed_apply hx, boxed_apply hx]
  unfold Spec.corner
  fin_cases k <;> simp

/-! ## The best class -/

/-- The best of the classes up to `k` is the confidence of the class named, no less than any other's and more than any earlier one's. -/
theorem best_spec (n k : ℕ) : (Spec.best a n k).1 = Spec.conf a n (Spec.best a n k).2 ∧ (Spec.best a n k).2 ≤ k
    ∧ (∀ i ≤ k, Spec.conf a n i ≤ (Spec.best a n k).1) ∧ ∀ i < (Spec.best a n k).2, Spec.conf a n i < (Spec.best a n k).1 := by
  induction k with
  | zero => exact ⟨rfl, le_rfl, fun i hi => by rw [Nat.le_zero.mp hi]; exact le_rfl, fun i hi => absurd hi (Nat.not_lt_zero i)⟩
  | succ k ih =>
    obtain ⟨h1, h2, h3, h4⟩ := ih
    unfold Spec.best
    split
    · next h =>
      refine ⟨rfl, le_rfl, fun i hi => ?_, fun i hi => lt_of_le_of_lt (h3 i (Nat.lt_succ_iff.mp hi)) h⟩
      rcases Nat.le_succ_iff.mp hi with hi | rfl
      · exact (h3 i hi).trans h.le
      · exact le_rfl
    · next h =>
      refine ⟨h1, h2.trans (Nat.le_succ k), fun i hi => ?_, h4⟩
      rcases Nat.le_succ_iff.mp hi with hi | rfl
      · exact h3 i hi
      · exact not_lt.mp h

theorem best_apply (hx : Reads x b a) (n : Fin 20000) : best (conf x) (ix2 b n) = Spec.prob a n.val := by
  obtain ⟨h1, h2, h3, -⟩ := best_spec (a := a) n.val 8
  have h : ∀ v : FVec Ideal S4x20000x9 .f32, best v (ix2 b n) = Finset.fold max (Ideal.ofBits .f32 0xFF800000#32) (fun k => v (ix3 b n k)) Finset.univ := fun v => by
    pointwise [best]
  rw [h, Spec.const_bot]
  unfold Spec.prob
  apply le_antisymm
  · rw [Finset.fold_max_le]
    refine ⟨bot_le, fun k _ => ?_⟩
    rw [conf_apply hx]
    exact h3 _ (by omega)
  · rw [Finset.le_fold_max]
    refine Or.inr ⟨⟨(Spec.best a n.val 8).2, by omega⟩, Finset.mem_univ _, ?_⟩
    rw [conf_apply hx, h1]

/-- The reducer keeps the greater value, and of equal values the lesser index. -/
theorem reducer_apply (p q : EReal × BitVec 32) : reducer_argmax_f32_i32 (F := Ideal) p q
    = if q.1 < p.1 ∨ (p.1 = q.1 ∧ p.2.toInt < q.2.toInt) then p else q := by
  have ho : ∀ c d : Bool, BitVec.ofBool c ||| BitVec.ofBool d = BitVec.ofBool (c || d) := by decide
  have ha : ∀ c d : Bool, BitVec.ofBool c &&& BitVec.ofBool d = BitVec.ofBool (c && d) := by decide
  have hs : ∀ {α : Type} (c : Bool) (u v : α), Scalar.select (BitVec.ofBool c) u v = if c = true then u else v := by
    intro α c u v; cases c <;> rfl
  have h : reducer_argmax_f32_i32 (F := Ideal) p q
      = (Scalar.select (BitVec.ofBool (decide (q.1 < p.1)) ||| BitVec.ofBool (decide (p.1 ≠ p.1))) p.1 q.1,
        Scalar.select (BitVec.ofBool (decide (q.1 < p.1)) ||| BitVec.ofBool (decide (p.1 ≠ p.1))
          ||| (BitVec.ofBool (decide (p.1 = q.1)) &&& BitVec.ofBool (p.2.slt q.2))) p.2 q.2) := rfl
  rw [h, ha, ho, ho, hs, hs]
  have hl : p.2.slt q.2 = decide (p.2.toInt < q.2.toInt) := rfl
  rw [hl]
  simp only [ne_eq, not_true_eq_false, decide_false, Bool.or_false, Bool.or_eq_true, Bool.and_eq_true, decide_eq_true_eq]
  by_cases h1 : q.1 < p.1
  · rw [if_pos h1, if_pos (Or.inl h1), if_pos (Or.inl h1)]
  · rw [if_neg h1]
    by_cases h2 : p.1 = q.1 ∧ p.2.toInt < q.2.toInt
    · rw [if_pos (Or.inr h2), if_pos (Or.inr h2), ← h2.1]
    · rw [if_neg (by tauto), if_neg (by tauto)]

/-- The reducer's fold is one of the pairs, at least every other, and the first of its equals. -/
theorem fold_apply (L : List (EReal × BitVec 32)) (p : EReal × BitVec 32) :
    ∃ q ∈ p :: L, L.foldl (reducer_argmax_f32_i32 (F := Ideal)) p = q
      ∧ ∀ r ∈ p :: L, r.1 ≤ q.1 ∧ (r.1 = q.1 → q.2.toInt ≤ r.2.toInt) := by
  induction L generalizing p with
  | nil => exact ⟨p, by simp, rfl, by simp⟩
  | cons s L ih =>
    rw [List.foldl_cons, reducer_apply]
    by_cases h : s.1 < p.1 ∨ (p.1 = s.1 ∧ p.2.toInt < s.2.toInt)
    · rw [if_pos h]
      obtain ⟨q, hq, he, hr⟩ := ih p
      refine ⟨q, by simp only [List.mem_cons] at hq ⊢; tauto, he, fun r hr' => ?_⟩
      rcases List.mem_cons.mp hr' with rfl | hr'
      · exact hr _ (by simp)
      · rcases List.mem_cons.mp hr' with rfl | hr'
        · have hp := hr p (by simp)
          rcases h with h | ⟨h, h'⟩
          · exact ⟨h.le.trans hp.1, fun e => absurd (h.trans_le hp.1) (by rw [e]; exact lt_irrefl _)⟩
          · exact ⟨h ▸ hp.1, fun e => (hp.2 (h.trans e)).trans h'.le⟩
        · exact hr _ (List.mem_cons_of_mem _ hr')
    · rw [if_neg h]
      rw [not_or, not_lt, not_and, not_lt] at h
      obtain ⟨q, hq, he, hr⟩ := ih s
      refine ⟨q, List.mem_cons_of_mem _ hq, he, fun r hr' => ?_⟩
      rcases List.mem_cons.mp hr' with rfl | hr'
      · have hp := hr s (by simp)
        refine ⟨h.1.trans hp.1, fun e => ?_⟩
        have e' : r.1 = s.1 := le_antisymm h.1 (e ▸ hp.1)
        exact (hp.2 (e'.symm.trans e)).trans (h.2 e')
      · exact hr _ hr'

theorem cls_apply (hx : Reads x b a) (n : Fin 20000) : cls (conf x) (ix2 b n) = BitVec.ofNat 32 (Spec.cls a n.val) := by
  unfold cls
  rw [Ideal.argReduce_eq_reduce2, Host.reduce2_eq_foldl_fiber]
  obtain ⟨q, hq, he, hr⟩ := fold_apply (Host.argReduceFiber (conf x) (iotaInDim S4x20000x9 32 2) reducesTo_S4x20000x9_S4x20000_d2 (ix2 b n))
    (constant (F := Ideal) S_ .f32 0xFF800000#32 (Shape.Idx.first h_S_), constantI S_ 32 0#32 (Shape.Idx.first h_S_))
  refine (congrArg Prod.snd he).trans ?_
  have hmem : ∀ p : EReal × BitVec 32, p ∈ Host.argReduceFiber (conf x) (iotaInDim S4x20000x9 32 2) reducesTo_S4x20000x9_S4x20000_d2 (ix2 b n)
      ↔ ∃ k : Fin 9, p = (Spec.conf a n.val k.val, BitVec.ofNat 32 k.val) := by
    intro p
    unfold Host.argReduceFiber
    simp only [List.mem_map, List.mem_filter, List.mem_finRange, true_and, decide_eq_true_eq]
    have hd : ∀ (b' : Fin 4) (n' : Fin 20000) (k : Fin 9), reducesTo_S4x20000x9_S4x20000_d2.drop (ix3 b' n' k) = ix2 b' n' := by
      intro b' n' k
      funext d
      match d with
      | ⟨0, _⟩ => rfl
      | ⟨1, _⟩ => rfl
    constructor
    · rintro ⟨i, hi, rfl⟩
      generalize S4x20000x9.rowMajor.symm i = j at hi ⊢
      idx_vars j
      rw [hd] at hi
      obtain ⟨h0, h1⟩ : j0 = b ∧ j1 = n := ⟨congrFun hi 0, congrFun hi 1⟩
      subst h0 h1
      exact ⟨j2, by rw [conf_apply hx]; rfl⟩
    · rintro ⟨k, rfl⟩
      refine ⟨S4x20000x9.rowMajor (ix3 b n k), ?_, ?_⟩
      · rw [Equiv.symm_apply_apply, hd]
      · rw [Equiv.symm_apply_apply, conf_apply hx]
        rfl
  have hi : constant (F := Ideal) S_ .f32 0xFF800000#32 (Shape.Idx.first h_S_) = ⊥ := Spec.const_bot
  have hk : ∀ k : ℕ, k ≤ 8 → (BitVec.ofNat 32 k).toInt = k := fun k h => by
    exact word_toInt _ (by omega)
  obtain ⟨h1, h2, h3, h4⟩ := best_spec (a := a) n.val 8
  have hat : ∀ k : Fin 9, Spec.conf a n.val k.val ≤ q.1 ∧ (Spec.conf a n.val k.val = q.1 → q.2.toInt ≤ k.val) := fun k => by
    have h := hr _ (List.mem_cons_of_mem _ ((hmem _).mpr ⟨k, rfl⟩))
    rw [hk _ (by omega)] at h
    exact h
  have hb := hat ⟨(Spec.best a n.val 8).2, by omega⟩
  change q.2 = BitVec.ofNat 32 (Spec.best a n.val 8).2
  rcases List.mem_cons.mp hq with rfl | hq
  · rw [hi] at hat hb
    have h0 : Spec.conf a n.val 0 = ⊥ := le_bot_iff.mp (hat 0).1
    have hz : (Spec.best a n.val 8).2 = 0 := by
      by_contra h
      have := h4 0 (Nat.pos_of_ne_zero h)
      rw [h1, le_bot_iff.mp hb.1] at this
      exact not_lt_bot this
    rw [hz]; rfl
  · obtain ⟨k, rfl⟩ := (hmem q).mp hq
    have hle := h3 k.val (by omega)
    have heq : Spec.conf a n.val k.val = (Spec.best a n.val 8).1 := le_antisymm hle (h1 ▸ hb.1)
    have hk1 := hb.2 (h1 ▸ heq.symm)
    rw [hk _ (by omega)] at hk1
    have hk2 : ¬ k.val < (Spec.best a n.val 8).2 := fun h => absurd (h4 _ h) (by rw [heq]; exact lt_irrefl _)
    have : k.val = (Spec.best a n.val 8).2 := by
      have : k.val ≤ (Spec.best a n.val 8).2 := by exact_mod_cast hk1
      omega
    rw [this]

theorem score_apply (hx : Reads x b a) (n : Fin 20000) : scoreOf x (ix2 b n) = Spec.score a n.val := by
  have h : ∀ v : FVec Ideal S4x20000 .f32, score v (ix2 b n) = if Ideal.ofBits .f32 0x3E800000#32 < v (ix2 b n) then v (ix2 b n) else Ideal.ofBits .f32 0xBF800000#32 := fun v => by
    pointwise [score]
  unfold scoreOf bestOf
  rw [h, best_apply hx]
  rfl

end Cert.Proof.RefModel

end
-- ==== Proof.RefPicks.lean ====
/- The reference's first 300: the anchors in order of score, and what is gathered of them. -/
module

public import proofs.«01_k».proof.Proof.RefChain
public import proofs.«01_k».proof.Proof.RefWords
public import proofs.«01_k».proof.Proof.Planes
public import Idealize.ShloMosaic.Lib.Pointwise

@[expose] public section

set_option maxRecDepth 16384

noncomputable section

namespace Cert.Proof.RefModel

open Cert.ReferenceIdeal Cert.ReferenceIdeal.Gen
open Idealize.ShloMosaic
open Idealize.ShloMosaic.TcCoe
open Cert.Proof.Planes (select_ogt select_oeq float_word)

/-! ## The order -/

theorem along_ix2 (b : Fin 4) (n k : Fin 20000) : Shape.Idx.along (s := S4x20000) (ix2 b n) (1 : Fin 2) k = ix2 b k := by
  funext d
  match d with
  | ⟨0, _⟩ => rfl
  | ⟨1, _⟩ => rfl

theorem before_eq (x y : EReal) : (FloatOps.cmpfTotal (F := Ideal) (φ := .f32) .gt x y == 1#1) = decide (y < x) := by
  have h : FloatOps.cmpfTotal (F := Ideal) (φ := .f32) .gt x y = BitVec.ofBool (decide (y < x)) := rfl
  rw [h]
  cases decide (y < x) <;> rfl

/-- The first 300 of a sorted plane. -/
theorem first_apply {α : Type} (v : S4x20000.Idx → α) (b : Fin 4) (t : Fin 300) :
    extractStridedSlice S4x300 (fun _ => 0) v sliceFits_S4x20000_S4x300 (ix2 b t) = v (ix2 b ⟨t.val, by omega⟩) := by
  refine congrArg v (funext fun d => ?_)
  match d with
  | ⟨0, _⟩ => exact Fin.ext (Nat.zero_add _)
  | ⟨1, _⟩ => exact Fin.ext (Nat.zero_add _)

variable {s : FVec Ideal S4x20000 .f32} {b : Fin 4} {a : ℕ → ℕ → EReal}

theorem ranked_eq (t : ℕ) (h : t < 20000) : Spec.ranked a t = (Spec.order a ⟨t, h⟩).val := by
  unfold Spec.ranked; rw [dif_pos h]

theorem sorted_apply {β : Type} (y : S4x20000.Idx → β) (hs : ∀ n : Fin 20000, s (ix2 b n) = Spec.score a n.val) (n : Fin 20000) :
    (Host.sort2 S4x20000 1 (fun l r : EReal × β => FloatOps.cmpfTotal (F := Ideal) (φ := .f32) .gt l.1 r.1) s y).1 (ix2 b n) = s (ix2 b (Spec.order a n))
    ∧ (Host.sort2 S4x20000 1 (fun l r : EReal × β => FloatOps.cmpfTotal (F := Ideal) (φ := .f32) .gt l.1 r.1) s y).2 (ix2 b n) = y (ix2 b (Spec.order a n)) := by
  have ho : Spec.order a n = sortedFrom (fun k k' : Fin 20000 => FloatOps.cmpfTotal (F := Ideal) (φ := .f32) .gt
      (s (Shape.Idx.along (s := S4x20000) (ix2 b n) (1 : Fin 2) k)) (s (Shape.Idx.along (s := S4x20000) (ix2 b n) (1 : Fin 2) k')) == 1#1) n := by
    unfold Spec.order
    congr 1
    funext k k'
    rw [before_eq, along_ix2, along_ix2, hs, hs]
  rw [← along_ix2 b n (Spec.order a n), ho]
  exact ⟨rfl, rfl⟩

/-- Each anchor's own place. -/
def ownPlace : IVec S4x20000 32 := fun i => if hd : 1 < S4x20000.rank then iotaInDim S4x20000 32 ⟨1, hd⟩ i else 0#32

theorem values_eq (s : FVec Ideal S4x20000 .f32) : values s = extractStridedSlice S4x300 (fun _ => 0)
    (Host.sort2 S4x20000 1 (fun l r : EReal × BitVec 32 => FloatOps.cmpfTotal (F := Ideal) (φ := .f32) .gt l.1 r.1) s ownPlace).1 sliceFits_S4x20000_S4x300 := rfl

theorem places_eq (s : FVec Ideal S4x20000 .f32) : places s = extractStridedSlice S4x300 (fun _ => 0)
    (Host.sort2 S4x20000 1 (fun l r : EReal × BitVec 32 => FloatOps.cmpfTotal (F := Ideal) (φ := .f32) .gt l.1 r.1) s ownPlace).2 sliceFits_S4x20000_S4x300 := rfl

theorem values_apply (hs : ∀ n : Fin 20000, s (ix2 b n) = Spec.score a n.val) (t : Fin 300) :
    values s (ix2 b t) = Spec.score a (Spec.ranked a t.val) := by
  rw [values_eq, first_apply, ranked_eq t.val (by omega), ← hs]
  exact (sorted_apply _ hs _).1

theorem places_apply (hs : ∀ n : Fin 20000, s (ix2 b n) = Spec.score a n.val) (t : Fin 300) :
    places s (ix2 b t) = BitVec.ofNat 32 (Spec.ranked a t.val) := by
  rw [places_eq, first_apply, ranked_eq t.val (by omega)]
  exact (sorted_apply _ hs _).2

/-! ## What is gathered -/

theorem wrapped_apply (p : IVec S4x300 32) (b : Fin 4) (t : Fin 300) (k : ℕ) (hk : k < 20000) (hp : p (ix2 b t) = BitVec.ofNat 32 k) :
    (wrapped p (ix3 b t 0)).toInt.toNat = k := by
  have h : wrapped p (ix3 b t 0) = BitVec.ofNat 32 k := by
    pointwise [wrapped]
    rw [hp, not_neg k (by omega)]
  rw [h, word_toInt _ (by omega)]
  rfl

theorem takeRow_apply {α : Type} (v : S4x20000.Idx → α) (p : IVec S4x300 32) (b : Fin 4) (t : Fin 300) (k : ℕ) (hk : k < 20000)
    (hp : p (ix2 b t) = BitVec.ofNat 32 k) : takeRow v p (ix2 b t) = v (ix2 b ⟨k, hk⟩) := by
  unfold takeRow Host.gather
  refine congrArg v (funext fun d => Fin.ext ?_)
  generalize hD : gather_S4x20000_S4x300x1_S4x300_n_1_0_0_1_2_11 = D
  change D.start (ix2 b t) (wrapped p) d + D.batchCoord (ix2 b t) d + D.offCoord (ix2 b t) d = _
  subst hD
  match d with
  | ⟨0, _⟩ =>
    have h1 : gather_S4x20000_S4x300x1_S4x300_n_1_0_0_1_2_11.start (ix2 b t) (wrapped p) (0 : Fin 2) = 0 := rfl
    have h2 : gather_S4x20000_S4x300x1_S4x300_n_1_0_0_1_2_11.batchCoord (ix2 b t) (0 : Fin 2) = b.val := rfl
    have h3 : gather_S4x20000_S4x300x1_S4x300_n_1_0_0_1_2_11.offCoord (ix2 b t) (0 : Fin 2) = 0 := rfl
    change _ + _ + _ = b.val
    rw [show (⟨0, _⟩ : Fin S4x20000.rank) = (0 : Fin 2) from rfl, h1, h2, h3]; omega
  | ⟨1, _⟩ =>
    have hsi : gather_S4x20000_S4x300x1_S4x300_n_1_0_0_1_2_11.siIdx (ix2 b t) (⟨0, by decide⟩ : Fin 1) = ix3 b t 0 := by
      funext d
      match d with
      | ⟨0, _⟩ => rfl
      | ⟨1, _⟩ => rfl
      | ⟨2, _⟩ => rfl
    have h1 : gather_S4x20000_S4x300x1_S4x300_n_1_0_0_1_2_11.start (ix2 b t) (wrapped p) (1 : Fin 2)
        = min (wrapped p (gather_S4x20000_S4x300x1_S4x300_n_1_0_0_1_2_11.siIdx (ix2 b t) (⟨0, by decide⟩ : Fin 1))).toInt.toNat 19999 := rfl
    have h2 : gather_S4x20000_S4x300x1_S4x300_n_1_0_0_1_2_11.batchCoord (ix2 b t) (1 : Fin 2) = 0 := rfl
    have h3 : gather_S4x20000_S4x300x1_S4x300_n_1_0_0_1_2_11.offCoord (ix2 b t) (1 : Fin 2) = 0 := rfl
    change _ + _ + _ = k
    rw [hsi, wrapped_apply p b t k hk hp] at h1
    rw [show (⟨1, _⟩ : Fin S4x20000.rank) = (1 : Fin 2) from rfl, h1, h2, h3]; omega

theorem takeBoxes_apply (v : FVec Ideal S4x20000x4 .f32) (p : IVec S4x300 32) (b : Fin 4) (t : Fin 300) (c : Fin 4) (k : ℕ) (hk : k < 20000)
    (hp : p (ix2 b t) = BitVec.ofNat 32 k) : takeBoxes v p (ix3 b t c) = v (ix3 b ⟨k, hk⟩ c) := by
  unfold takeBoxes Host.gather
  refine congrArg v (funext fun d => Fin.ext ?_)
  have hsi : gather_S4x20000x4_S4x300x1_S4x300x4_2_1_0_0_1_2_114.siIdx (ix3 b t c) (⟨0, by decide⟩ : Fin 1) = ix3 b t 0 := by
    funext d
    match d with
    | ⟨0, _⟩ => rfl
    | ⟨1, _⟩ => rfl
    | ⟨2, _⟩ => rfl
  have h1 : gather_S4x20000x4_S4x300x1_S4x300x4_2_1_0_0_1_2_114.start (ix3 b t c) (wrapped p) (1 : Fin 3)
      = min (wrapped p (gather_S4x20000x4_S4x300x1_S4x300x4_2_1_0_0_1_2_114.siIdx (ix3 b t c) (⟨0, by decide⟩ : Fin 1))).toInt.toNat 19999 := rfl
  rw [hsi, wrapped_apply p b t k hk hp] at h1
  match d with
  | ⟨0, _⟩ =>
    change 0 + b.val + 0 = b.val
    omega
  | ⟨1, _⟩ =>
    change gather_S4x20000x4_S4x300x1_S4x300x4_2_1_0_0_1_2_114.start (ix3 b t c) (wrapped p) (1 : Fin 3) + 0 + 0 = k
    rw [h1]; omega
  | ⟨2, _⟩ =>
    change 0 + 0 + c.val = c.val
    omega

theorem start_apply (v : FVec Ideal S4x300 .f32) (b : Fin 4) (t : Fin 300) : start v (ix2 b t) = BitVec.ofBool (decide (Spec.quarter < v (ix2 b t))) := by
  pointwise [start]
  rfl

end Cert.Proof.RefModel

end
-- ==== Proof.RefOverlap.lean ====
/- The reference's overlaps, read at an index. -/
module

public import proofs.«01_k».proof.Proof.RefChain
public import proofs.«01_k».proof.Proof.Planes
public import Idealize.ShloMosaic.Lib.Pointwise

@[expose] public section

set_option maxRecDepth 16384

noncomputable section

namespace Cert.Proof.RefModel

open Cert.ReferenceIdeal Cert.ReferenceIdeal.Gen
open Idealize.ShloMosaic
open Idealize.ShloMosaic.TcCoe
open Cert.Proof.Planes (select_ogt select_oeq float_word)

variable {a : ℕ → ℕ → EReal} {b : Fin 4}

theorem moved_apply {v : FVec Ideal S4x300x4 .f32} {p : IVec S4x300 32}
    (hv : ∀ (t : Fin 300) (c : Fin 4), v (ix3 b t c) = Spec.corner a (Spec.ranked a t.val) c.val)
    (hp : ∀ t : Fin 300, p (ix2 b t) = BitVec.ofNat 32 (Spec.cls a (Spec.ranked a t.val))) (t : Fin 300) (c : Fin 4) :
    moved v p (ix3 b t c) = Spec.moved a t.val c.val := by
  pointwise [moved, upright]
  rw [hv, hp, float_word _ (by have := Spec.best_le a (Spec.ranked a t.val) 8; unfold Spec.cls; omega)]
  rfl

theorem area_apply {v : FVec Ideal S4x300x4 .f32} (hv : ∀ (t : Fin 300) (c : Fin 4), v (ix3 b t c) = Spec.moved a t.val c.val) (t : Fin 300) :
    area v (ix2 b t) = Spec.area a t.val := by
  pointwise [area, side]
  rw [hv, hv, hv, hv]
  rfl

theorem iou_apply {v : FVec Ideal S4x300x4 .f32} {p : FVec Ideal S4x300 .f32} (hv : ∀ (t : Fin 300) (c : Fin 4), v (ix3 b t c) = Spec.moved a t.val c.val)
    (hp : ∀ t : Fin 300, p (ix2 b t) = Spec.area a t.val) (i j : Fin 300) :
    iou (clipped (extents v)) p p (ix3 b i j) = Spec.iou a i.val j.val := by
  pointwise [iou, inter, plane, clipped, extents, asRow, asCol, upright]
  simp only [hv, hp]
  rfl

/-- A record's column: the corners, the score, the class. -/
def column (a : ℕ → ℕ → EReal) (c t : ℕ) : EReal :=
  if c < 4 then Spec.corner a (Spec.ranked a t) c
  else if c < 5 then Spec.prob a (Spec.ranked a t) else ((Spec.cls a (Spec.ranked a t) : ℝ) : EReal)

theorem records_apply {v : FVec Ideal S4x300x4 .f32} {p : FVec Ideal S4x300 .f32} {k : IVec S4x300 32}
    (hv : ∀ (t : Fin 300) (c : Fin 4), v (ix3 b t c) = Spec.corner a (Spec.ranked a t.val) c.val)
    (hp : ∀ t : Fin 300, p (ix2 b t) = Spec.prob a (Spec.ranked a t.val))
    (hk : ∀ t : Fin 300, k (ix2 b t) = BitVec.ofNat 32 (Spec.cls a (Spec.ranked a t.val))) (t : Fin 300) (c : Fin 6) :
    records v p k (ix3 b t c) = column a c.val t.val := by
  pointwise [records, upright]
  rw [hp, hk, float_word _ (by have := Spec.best_le a (Spec.ranked a t.val) 8; unfold Spec.cls; omega)]
  unfold column
  by_cases h : c.val < 4
  · rw [dif_pos h, if_pos h, hv]
  · rw [dif_neg h, if_neg h]
    by_cases h' : c.val < 5
    · rw [dif_pos (by omega), if_pos h']
    · rw [dif_neg (by omega), if_neg h']

end Cert.Proof.RefModel

end
-- ==== Proof.RefLoop.lean ====
/- The reference's suppression loop, read at an index. -/
module

public import proofs.«01_k».proof.Proof.RefChain
public import proofs.«01_k».proof.Proof.RefWords
public import proofs.«01_k».proof.Proof.Planes
public import Idealize.ShloMosaic.Lib.Pointwise
public import Idealize.ShloMosaic.Lib.DynamicIndex

@[expose] public section

set_option maxRecDepth 16384

noncomputable section

namespace Cert.Proof.RefModel

open Cert.ReferenceIdeal Cert.ReferenceIdeal.Gen
open Idealize.ShloMosaic
open Idealize.ShloMosaic.TcCoe
open Cert.Proof.Planes (select_ogt select_oeq float_word)

open Cert.ReferenceIdeal.Value Cert.Proof.ReferenceIdeal

/-- One turn of the loop: of the overlaps, the candidates' numbers, the turn and the candidates kept so far. -/
def turn (w : FVec Ideal S4x300x300 .f32) (n : IVec S300 32) (k : IVec S_ 32) (u : IVec S4x300 1) : IVec S4x300 1 :=
  andi u (noti (andi (andi
    (cmpf .ogt (shapeCast S4x300 (Host.dynamicSlice S4x1x300 w (fun i => BitVec.toInt (![constantI S_ 32 0#32,
        select (cmpi .slt k (constantI S_ 32 0#32)) (addi k (constantI S_ 32 300#32)) k, constantI S_ 32 0#32] i (Shape.Idx.first h_S_)))
        sliceFits_S4x300x300_S4x1x300) shapeCasts_S4x1x300_S4x300)
      (broadcastInDim S4x300 ![] bcast_S_S4x300 (constant S_ .f32 0x3EE66666#32)))
    (broadcastInDim S4x300 ![0, 1] bcast_S4x1_S4x300_0_1 (Host.dynamicSlice S4x1 u (fun i => BitVec.toInt (![constantI S_ 32 0#32,
        select (cmpi .slt k (constantI S_ 32 0#32)) (addi k (constantI S_ 32 300#32)) k] i (Shape.Idx.first h_S_)))
        sliceFits_S4x300_S4x1)))
    (broadcastInDim S4x300 ![0, 1] bcast_S1x300_S4x300_0_1 (broadcastInDim S1x300 ![1] bcast_S300_S1x300_1
      (cmpi .sgt n (broadcastInDim S300 ![] bcast_S_S300 k))))))

theorem turn_eq (V : Valuation τ sig (Elt Ideal)) : STEP V (Proc.devRef .tc main_v123_4)
    = turn (V (Proc.devRef .tc main_v123_0)) (V (Proc.devRef .tc main_v123_1)) (V (Proc.devRef .tc main_v123_3)) (V (Proc.devRef .tc main_v123_4)) := by
  rw [STEP_main_v123_4]
  rfl

/-- A word below `2 ^ 31` is not negative. -/
theorem turn_index (k : ℕ) (hk : k < 300) (x : IVec S_ 32) :
    select (cmpi .slt (constantI S_ 32 (BitVec.ofNat 32 k)) (constantI S_ 32 0#32)) x (constantI S_ 32 (BitVec.ofNat 32 k))
      = constantI S_ 32 (BitVec.ofNat 32 k) := by
  funext j
  exact not_neg k (by omega) _

theorem turn_apply (w : FVec Ideal S4x300x300 .f32) (u : IVec S4x300 1) (k : Fin 300) (b : Fin 4) (j : Fin 300) :
    turn w (iotaInDim S300 32 0) (constantI S_ 32 (BitVec.ofNat 32 k.val)) u (ix2 b j)
      = u (ix2 b j) &&& ~~~(BitVec.ofBool (decide (Ideal.ofBits .f32 0x3EE66666#32 < w (ix3 b k j))) &&& u (ix2 b k)
          &&& BitVec.ofBool (decide (k.val < j.val))) := by
  have hk := k.isLt
  have hi : (BitVec.ofNat 32 k.val).toInt = (k.val : Int) := word_toInt _ (by omega)
  have h1 : ∀ i, (![constantI S_ 32 0#32, constantI S_ 32 (BitVec.ofNat 32 k.val), constantI S_ 32 0#32] i (Shape.Idx.first h_S_)).toInt
      = ((![0, k.val, 0] : Fin 3 → ℕ) i : Int) := fun i => by
    match i with
    | ⟨0, _⟩ => rfl
    | ⟨1, _⟩ => exact hi
    | ⟨2, _⟩ => rfl
  have h2 : ∀ i, (![constantI S_ 32 0#32, constantI S_ 32 (BitVec.ofNat 32 k.val)] i (Shape.Idx.first h_S_)).toInt
      = ((![0, k.val] : Fin 2 → ℕ) i : Int) := fun i => by
    match i with
    | ⟨0, _⟩ => rfl
    | ⟨1, _⟩ => exact hi
  have f1 : S4x300x300.Slices ![0, k.val, 0] S4x1x300 := ⟨rfl, fun i => by
    match i with
    | ⟨0, _⟩ => exact Nat.le_refl _
    | ⟨1, _⟩ => change k.val + 1 ≤ 300; omega
    | ⟨2, _⟩ => exact Nat.le_refl _⟩
  have f2 : S4x300.Slices ![0, k.val] S4x1 := ⟨rfl, fun i => by
    match i with
    | ⟨0, _⟩ => exact Nat.le_refl _
    | ⟨1, _⟩ => change k.val + 1 ≤ 300; omega⟩
  unfold turn
  rw [turn_index k.val hk, Host.dynamicSlice_eq_extractStridedSlice _ w _ ![0, k.val, 0] _ f1 h1,
    Host.dynamicSlice_eq_extractStridedSlice _ u _ ![0, k.val] _ f2 h2]
  pointwise
  have hs : IntOp.cmpi CmpIPredicate.sgt (BitVec.ofNat 32 j.val) (BitVec.ofNat 32 k.val) = BitVec.ofBool (decide (k.val < j.val)) := by
    have h : IntOp.cmpi CmpIPredicate.sgt (BitVec.ofNat 32 j.val) (BitVec.ofNat 32 k.val)
        = BitVec.ofBool (decide ((BitVec.ofNat 32 k.val).toInt < (BitVec.ofNat 32 j.val).toInt)) := rfl
    rw [h, hi, word_toInt _ (by omega)]
    exact congrArg BitVec.ofBool (decide_eq_decide.mpr (by norm_cast))
  rw [hs]
  rfl

variable {m : (ℓ : Loc nD τ sig) → Buf (Elt Ideal) ℓ} {c : Dev nD} {a : ℕ → ℕ → EReal} {b : Fin 4}

theorem bits_keep (p q r s : Bool) :
    BitVec.ofBool p &&& ~~~(BitVec.ofBool q &&& BitVec.ofBool r &&& BitVec.ofBool s) = BitVec.ofBool (p && !(q && r && s)) := by
  revert p q r s; decide

theorem decide_keep (P Q R S T : Prop) [Decidable P] [Decidable Q] [Decidable R] [Decidable S] [Decidable T] (h : T ↔ P ∧ ¬ ((Q ∧ S) ∧ R)) :
    (decide P && !(decide Q && decide R && decide S)) = decide T := by
  by_cases hP : P <;> by_cases hQ : Q <;> by_cases hR : R <;> by_cases hS : S <;> simp [h, hP, hQ, hR, hS]

open Classical in
/-- The loop's state after `k` turns. -/
theorem loop_state (hw : ∀ i j : Fin 300, iouOf (arg m c) (ix3 b i j) = Spec.iou a i.val j.val)
    (hs : ∀ j : Fin 300, startOf (arg m c) (ix2 b j) = BitVec.ofBool (decide (Spec.kept a 0 j.val))) (k : ℕ) (hk : k ≤ 300) :
    (STEP^[k] (entry m c)) (Proc.devRef .tc main_v123_0) = iouOf (arg m c)
    ∧ (STEP^[k] (entry m c)) (Proc.devRef .tc main_v123_1) = iotaInDim S300 32 0
    ∧ (STEP^[k] (entry m c)) (Proc.devRef .tc main_v123_3) = constantI S_ 32 (BitVec.ofNat 32 k)
    ∧ ∀ j : Fin 300, ((STEP^[k] (entry m c)) (Proc.devRef .tc main_v123_4) : IVec S4x300 1) (ix2 b j) = BitVec.ofBool (decide (Spec.kept a k j.val)) := by
  induction k with
  | zero =>
    refine ⟨entry_iou m c, entry_numbers m c, entry_first m c, fun j => ?_⟩
    change (entry m c (Proc.devRef .tc main_v123_4) : IVec S4x300 1) (ix2 b j) = _
    rw [entry_start]
    exact hs j
  | succ k ih =>
    obtain ⟨h0, h1, h3, h4⟩ := ih (by omega)
    rw [Function.iterate_succ_apply']
    generalize STEP^[k] (entry m c) = V at h0 h1 h3 h4
    refine ⟨(STEP_main_v123_0 V).trans h0, (STEP_main_v123_1 V).trans h1, ?_, fun j => ?_⟩
    · rw [STEP_main_v123_3]
      have e : step_main_v123_3 V = addi (V (Proc.devRef .tc main_v123_3)) (constantI S_ 32 1#32) := rfl
      rw [e, h3]
      funext i
      exact (BitVec.ofNat_add k 1).symm
    · rw [turn_eq, h0, h1, h3]
      refine (turn_apply _ _ ⟨k, by omega⟩ b j).trans ?_
      rw [h4 j, h4 ⟨k, by omega⟩, hw, bits_keep]
      exact congrArg BitVec.ofBool (decide_keep _ _ _ _ _ Iff.rfl)

open Classical in
theorem keepOf_apply (hw : ∀ i j : Fin 300, iouOf (arg m c) (ix3 b i j) = Spec.iou a i.val j.val)
    (hs : ∀ j : Fin 300, startOf (arg m c) (ix2 b j) = BitVec.ofBool (decide (Spec.kept a 0 j.val))) (j : Fin 300) :
    keepOf m c (ix2 b j) = BitVec.ofBool (decide (Spec.kept a 300 j.val)) :=
  (loop_state hw hs 300 le_rfl).2.2.2 j

end Cert.Proof.RefModel

end
-- ==== Proof.RefSlots.lean ====
/- The reference's kept candidates in their slots. -/
module

public import proofs.«01_k».proof.Proof.RefChain
public import proofs.«01_k».proof.Proof.RefWords
public import proofs.«01_k».proof.Proof.Planes
public import Idealize.ShloMosaic.Lib.Pointwise
public import Idealize.ShloMosaic.Lib.Routing.OpsSet
public import Idealize.ShloMosaic.Lib.Routing.OpsPair

@[expose] public section

set_option maxRecDepth 16384

noncomputable section

namespace Cert.Proof.RefModel

open Cert.ReferenceIdeal Cert.ReferenceIdeal.Gen
open Idealize.ShloMosaic
open Idealize.ShloMosaic.TcCoe
open Cert.Proof.Planes (select_ogt select_oeq float_word)

variable {a : ℕ → ℕ → EReal} {b : Fin 4} {keep : IVec S4x300 1}

open Classical in
/-- Image `b`'s bits say which candidates are kept. -/
def Keeps (keep : IVec S4x300 1) (b : Fin 4) (a : ℕ → ℕ → EReal) : Prop :=
  ∀ t : Fin 300, keep (ix2 b t) = BitVec.ofBool (decide (Spec.kept a 300 t.val))

/-- A row's running sums are those of the row alone. -/
theorem counts_row (x : IVec S4x300 32) (i : IVec S_ 32) (b : Fin 4) (t : Fin 300)
    (h : (Routing.shape2 1 300).ReduceWindows (![1, 300] : Fin 2 → Nat) ![1, 1] ![0, 299] ![0, 0] (Routing.shape2 1 300)) :
    Host.reduceWindow IntOp.addi ![1, 300] ![1, 1] ![0, 299] ![0, 0] x i reduceWindows_S4x300_S4x300_w1s1p0_0_w300s1p299_0 h_S_ (ix2 b t)
      = Host.reduceWindow (s := Routing.shape2 1 300) (t := Routing.shape2 1 300) IntOp.addi ![1, 300] ![1, 1] ![0, 299] ![0, 0]
          (fun q => x (ix2 b (q 1))) i h h_S_ (ix2 0 t) := by
  unfold Host.reduceWindow
  dsimp only
  refine congrArg (fun g => List.foldl g (i (Shape.Idx.first h_S_)) (List.finRange _)) (funext fun r => funext fun n => ?_)
  refine congrArg (IntOp.addi r) ?_
  have h0 : ((⟨2, ![1, 300]⟩ : Shape).rowMajor.symm n 0).val = 0 := by
    have := ((⟨2, ![1, 300]⟩ : Shape).rowMajor.symm n 0).isLt
    change _ < 1 at this
    omega
  split
  · next hin =>
    split
    · refine congrArg x (funext fun d => ?_)
      match d with
      | ⟨0, _⟩ =>
        refine Fin.ext ?_
        change b.val * 1 + ((⟨2, ![1, 300]⟩ : Shape).rowMajor.symm n 0).val - 0 = b.val
        omega
      | ⟨1, _⟩ => rfl
    · next hn =>
      refine absurd (fun d => ?_) hn
      match d with
      | ⟨0, _⟩ =>
        change 0 ≤ 0 * 1 + ((⟨2, ![1, 300]⟩ : Shape).rowMajor.symm n 0).val ∧ 0 * 1 + ((⟨2, ![1, 300]⟩ : Shape).rowMajor.symm n 0).val - 0 < 1
        omega
      | ⟨1, _⟩ => exact hin 1
  · next hn =>
    split
    · next hin =>
      refine absurd (fun d => ?_) hn
      match d with
      | ⟨0, _⟩ =>
        change 0 ≤ b.val * 1 + ((⟨2, ![1, 300]⟩ : Shape).rowMajor.symm n 0).val ∧ b.val * 1 + ((⟨2, ![1, 300]⟩ : Shape).rowMajor.symm n 0).val - 0 < 4
        omega
      | ⟨1, _⟩ => exact hin 1
    · rfl

theorem count_step (t : ℕ) : Spec.count a (t + 1) = Spec.count a t + (open Classical in if Spec.kept a 300 t then 1 else 0) := by
  classical
  by_cases h : Spec.kept a 300 t
  · rw [if_pos h, Spec.count_succ a t h]
  · rw [if_neg h]
    unfold Spec.count
    rw [Finset.range_add_one, Finset.filter_insert, if_neg h, Nat.add_zero]

open Classical in
theorem sum_kept (t : ℕ) : ((List.range t).map fun n => if Spec.kept a 300 n then 1 else 0).sum = Spec.count a t := by
  induction t with
  | zero => rfl
  | succ t ih => rw [List.range_succ, List.map_append, List.sum_append, ih, count_step]; simp

theorem count_le (t : ℕ) : Spec.count a t ≤ t := by
  induction t with
  | zero => exact le_rfl
  | succ t ih => rw [count_step]; split <;> omega

theorem counts_apply (hk : Keeps keep b a) (t : Fin 300) : counts keep (ix2 b t) = BitVec.ofNat 32 (Spec.count a (t.val + 1)) := by
  classical
  unfold counts
  rw [counts_row _ _ b t (by decide), ix2_eq_valueIdx, Routing.cumsum2 (Nm1 := 299) rfl _ (fun n => if Spec.kept a 300 n then 1 else 0) ?_ _ rfl, sum_kept]
  intro n
  change extui 32 keep natLt_1_32 (ix2 b n) = _
  change (keep (ix2 b n)).setWidth 32 = _
  rw [hk n]
  by_cases h : Spec.kept a 300 n.val
  · rw [decide_eq_true h, if_pos h]; rfl
  · rw [decide_eq_false h, if_neg h]; rfl

open Classical in
/-- The candidate goes to a slot. -/
def Fits (a : ℕ → ℕ → EReal) (t : ℕ) : Prop := Spec.kept a 300 t ∧ Spec.count a t < 20

theorem rank_apply (hk : Keeps keep b a) (t : Fin 300) (h : Spec.kept a 300 t.val) :
    rank (counts keep) (ix2 b t) = BitVec.ofNat 32 (Spec.count a t.val) := by
  pointwise [rank]
  rw [counts_apply hk, Spec.count_succ a _ h, BitVec.ofNat_add]
  change _ + _ - _ = _
  exact BitVec.add_sub_cancel _ _

open Classical in
theorem fits_apply (hk : Keeps keep b a) (t : Fin 300) :
    fits keep (rank (counts keep)) (ix2 b t) = BitVec.ofBool (decide (Fits a t.val)) := by
  have e : fits keep (rank (counts keep)) (ix2 b t) = keep (ix2 b t) &&& BitVec.ofBool ((rank (counts keep) (ix2 b t)).slt 20#32) := rfl
  rw [e, hk t]
  by_cases h : Spec.kept a 300 t.val
  · have hc := count_le (a := a) t.val
    have hs : (BitVec.ofNat 32 (Spec.count a t.val)).slt 20#32 = decide (Spec.count a t.val < 20) := by
      have : (BitVec.ofNat 32 (Spec.count a t.val)).slt 20#32 = decide ((BitVec.ofNat 32 (Spec.count a t.val)).toInt < (20 : Int)) := rfl
      rw [this, word_toInt _ (by omega)]
      exact decide_eq_decide.mpr (by norm_cast)
    rw [rank_apply hk t h, hs, decide_eq_true h]
    have : decide (Fits a t.val) = decide (Spec.count a t.val < 20) := decide_eq_decide.mpr ⟨fun q => q.2, fun q => ⟨h, q⟩⟩
    rw [this]
    cases decide (Spec.count a t.val < 20) <;> rfl
  · have : decide (Fits a t.val) = false := decide_eq_false fun q => h q.1
    rw [decide_eq_false h, this]
    exact BitVec.zero_and

open Classical in
theorem target_apply (hk : Keeps keep b a) (t : Fin 300) :
    target (fits keep (rank (counts keep))) (rank (counts keep)) (ix2 b t) = BitVec.ofNat 32 (if Fits a t.val then Spec.count a t.val else 20) := by
  have e : target (fits keep (rank (counts keep))) (rank (counts keep)) (ix2 b t)
      = Scalar.select (fits keep (rank (counts keep)) (ix2 b t)) (rank (counts keep) (ix2 b t)) 20#32 := rfl
  rw [e, fits_apply hk]
  by_cases h : Fits a t.val
  · rw [decide_eq_true h, if_pos h, rank_apply hk t h.1]; rfl
  · rw [decide_eq_false h, if_neg h]; rfl

theorem spots_row (n : IVec S4x300 32) (b : Fin 4) (t : Fin 300) : (spots batch n (ix3 b t 0)).toInt = b.val := by
  have : spots batch n (ix3 b t 0) = Scalar.select (IntOp.cmpi .slt (BitVec.ofNat 32 b.val) 0#32) (IntOp.addi (BitVec.ofNat 32 b.val) 4#32) (BitVec.ofNat 32 b.val) := by
    pointwise [spots, batch, upright]
  rw [this, not_neg _ (by omega), word_toInt _ (by omega)]

theorem spots_col (n : IVec S4x300 32) (b : Fin 4) (t : Fin 300) (k : ℕ) (hk : k < 2 ^ 31) (hn : n (ix2 b t) = BitVec.ofNat 32 k) :
    (spots batch n (ix3 b t 1)).toInt = k := by
  have : spots batch n (ix3 b t 1) = Scalar.select (IntOp.cmpi .slt (n (ix2 b t)) 0#32) (IntOp.addi (n (ix2 b t)) 20#32) (n (ix2 b t)) := by
    pointwise [spots, batch, upright]
  rw [this, hn, not_neg _ hk, word_toInt _ hk]

/-- Where a record lands. -/
theorem lands (p : IVec S4x300x2 32) (b b' : Fin 4) (t : Fin 300) (c c' : Fin 6) (e : Fin 20) :
    scatter_S4x20x6_S4x300x2_S4x300x6_2_01_01_2.resultIdx? (ix3 b' t c') p = some (ix3 b e c)
      ↔ (p (ix3 b' t 0)).toInt = b.val ∧ (p (ix3 b' t 1)).toInt = e.val ∧ c' = c := by
  rw [Routing.resultIdx?_eq_some]
  have h0 : scatter_S4x20x6_S4x300x2_S4x300x6_2_01_01_2.siIdx (ix3 b' t c') (⟨0, by decide⟩ : Fin 2) = ix3 b' t 0 := by
    funext d
    match d with
    | ⟨0, _⟩ => rfl
    | ⟨1, _⟩ => rfl
    | ⟨2, _⟩ => rfl
  have h1 : scatter_S4x20x6_S4x300x2_S4x300x6_2_01_01_2.siIdx (ix3 b' t c') (⟨1, by decide⟩ : Fin 2) = ix3 b' t 1 := by
    funext d
    match d with
    | ⟨0, _⟩ => rfl
    | ⟨1, _⟩ => rfl
    | ⟨2, _⟩ => rfl
  have s0 : scatter_S4x20x6_S4x300x2_S4x300x6_2_01_01_2.start (ix3 b' t c') p (0 : Fin 3) = (p (ix3 b' t 0)).toInt := by
    rw [← h0]; rfl
  have s1 : scatter_S4x20x6_S4x300x2_S4x300x6_2_01_01_2.start (ix3 b' t c') p (1 : Fin 3) = (p (ix3 b' t 1)).toInt := by
    rw [← h1]; rfl
  constructor
  · intro h
    have q0 : scatter_S4x20x6_S4x300x2_S4x300x6_2_01_01_2.start (ix3 b' t c') p (0 : Fin 3) + (0 : Int) = (b.val : Int) := h (0 : Fin 3)
    have q1 : scatter_S4x20x6_S4x300x2_S4x300x6_2_01_01_2.start (ix3 b' t c') p (1 : Fin 3) + (0 : Int) = (e.val : Int) := h (1 : Fin 3)
    have q2 : (0 : Int) + (c'.val : Int) = (c.val : Int) := h (2 : Fin 3)
    rw [s0] at q0
    rw [s1] at q1
    exact ⟨by omega, by omega, Fin.ext (by omega)⟩
  · rintro ⟨q0, q1, rfl⟩ d
    match d with
    | ⟨0, _⟩ =>
      change scatter_S4x20x6_S4x300x2_S4x300x6_2_01_01_2.start (ix3 b' t c') p (0 : Fin 3) + (0 : Int) = (b.val : Int)
      rw [s0]; omega
    | ⟨1, _⟩ =>
      change scatter_S4x20x6_S4x300x2_S4x300x6_2_01_01_2.start (ix3 b' t c') p (1 : Fin 3) + (0 : Int) = (e.val : Int)
      rw [s1]; omega
    | ⟨2, _⟩ =>
      change (0 : Int) + (c'.val : Int) = (c'.val : Int)
      omega

theorem slotsOf_apply (hk : Keeps keep b a) {v : FVec Ideal S4x300x6 .f32} {R : ℕ → ℕ → EReal}
    (hv : ∀ (t : Fin 300) (c : Fin 6), v (ix3 b t c) = R c.val t.val) (e : Fin 20) (c : Fin 6) :
    slotsOf keep v (ix3 b e c) = Spec.slot a (R c.val) e.val := by
  classical
  unfold slotsOf slots
  have hland : ∀ (b' : Fin 4) (t : Fin 300) (c' : Fin 6),
      scatter_S4x20x6_S4x300x2_S4x300x6_2_01_01_2.resultIdx? (ix3 b' t c')
        (spots batch (target (fits keep (rank (counts keep))) (rank (counts keep)))) = some (ix3 b e c)
      ↔ b' = b ∧ Spec.holds a e.val t.val ∧ c' = c := by
    intro b' t c'
    rw [lands, spots_row]
    constructor
    · rintro ⟨h0, h1, h2⟩
      obtain rfl : b' = b := Fin.ext (by exact_mod_cast h0)
      rw [spots_col _ _ _ _ (by have := count_le (a := a) t.val; split <;> omega) (target_apply hk t)] at h1
      refine ⟨rfl, ?_, h2⟩
      by_cases hf : Fits a t.val
      · rw [if_pos hf] at h1; exact ⟨hf.1, by exact_mod_cast h1⟩
      · rw [if_neg hf] at h1; have := e.isLt; omega
    · rintro ⟨rfl, h1, h2⟩
      have hf : Fits a t.val := ⟨h1.1, by rw [h1.2]; exact e.isLt⟩
      rw [spots_col _ _ _ _ (by have := count_le (a := a) t.val; split <;> omega) (target_apply hk t), if_pos hf]
      exact ⟨rfl, by rw [h1.2], h2⟩
  by_cases h : ∃ t, Spec.holds a e.val t
  · obtain ⟨t, ht⟩ := h
    have hlt : t < 300 := Spec.kept_lt a ht.1
    rw [Spec.slot_of_holds a _ ht]
    refine Routing.scatter_set_hit _ _ _ _ _ _ (fun j hj => ?_) (ix3 b ⟨t, hlt⟩ c) ((hland _ _ _).mpr ⟨rfl, ht, rfl⟩)
    idx_vars j
    obtain ⟨rfl, h1, rfl⟩ := (hland _ _ _).mp hj
    have hm : ∀ f : IVec S4x300 1, masked f v (ix3 j0 j1 j2) = Scalar.select (f (ix2 j0 j1)) (v (ix3 j0 j1 j2)) 0 := fun f => by
      pointwise [masked, upright]
    have hf : Fits a j1.val := ⟨h1.1, by rw [h1.2]; exact e.isLt⟩
    rw [hm, fits_apply hk, decide_eq_true hf, hv, Spec.holds_unique a h1 ht]
    rfl
  · rw [Spec.slot_of_not a _ fun t ht => h ⟨t, ht⟩]
    refine (Routing.scatter_set_miss _ _ _ _ _ fun j hj => ?_).trans ?_
    · idx_vars j
      exact h ⟨_, ((hland _ _ _).mp hj).2.1⟩
    · exact Ideal.ofBits_zero_f32

end Cert.Proof.RefModel

end
-- ==== Proof.RefOut.lean ====
/- The reference's result, read at an index. -/
module

public import proofs.«01_k».proof.Proof.RefChain
public import proofs.«01_k».proof.Proof.RefWords
public import proofs.«01_k».proof.Proof.Planes
public import Idealize.ShloMosaic.Lib.Pointwise

@[expose] public section

set_option maxRecDepth 16384

noncomputable section

namespace Cert.Proof.RefModel

open Cert.ReferenceIdeal Cert.ReferenceIdeal.Gen
open Idealize.ShloMosaic
open Idealize.ShloMosaic.TcCoe
open Cert.Proof.Planes (select_ogt select_oeq float_word)

theorem table0_apply (k : Fin 9) (l : Fin 3) : table0 (F := Ideal) (ix2 k l) = if k.val / 3 = l.val then 1 else 0 := by
  have h : ∀ (k : Fin 9) (l : Fin 3), lit0 (S9x3.rowMajor (ix2 k l)) = if k.val / 3 = l.val then 0x3F800000#32 else 0x00000000#32 := by decide
  change Ideal.ofBits .f32 (lit0 (S9x3.rowMajor (ix2 k l))) = _
  rw [h]
  split
  · exact Ideal.ofBits_one_f32
  · exact Ideal.ofBits_zero_f32

theorem table1_apply (k : Fin 9) (l : Fin 3) : table1 (F := Ideal) (ix2 k l) = if k.val % 3 = l.val then 1 else 0 := by
  have h : ∀ (k : Fin 9) (l : Fin 3), lit1 (S9x3.rowMajor (ix2 k l)) = if k.val % 3 = l.val then 0x3F800000#32 else 0x00000000#32 := by decide
  change Ideal.ofBits .f32 (lit1 (S9x3.rowMajor (ix2 k l))) = _
  rw [h]
  split
  · exact Ideal.ofBits_one_f32
  · exact Ideal.ofBits_zero_f32

theorem word_of_nat (k : ℕ) (hk : k ≤ 8) : (FloatOps.fptosi (F := Ideal) (φ := .f32) 32 (((k : ℝ) : EReal)) : BitVec 32) = BitVec.ofNat 32 k := by
  change Ideal.fptosi 32 _ = _
  unfold Ideal.fptosi
  rw [Ideal.toIntClamped_coe, if_pos (Nat.cast_nonneg k), Int.floor_natCast]
  interval_cases k <;> rfl

variable {v : FVec Ideal S4x20x6 .f32} {b : Fin 4} {e : Fin 20}

theorem weighed_apply (w : FVec Ideal S9x3 .f32) (k : ℕ) (hk : k ≤ 8) (hv : v (ix3 b e 5) = ((k : ℝ) : EReal)) (l : Fin 3) :
    weighed w v (ix3 b e l) = w (ix2 ⟨k, by omega⟩ l) * v (ix3 b e 4) := by
  have hc : slotClass v (ix2 b e) = BitVec.ofNat 32 k := by
    pointwise [slotClass, slotPart]
    rw [hv, word_of_nat k hk]
  pointwise [weighed, slotPart]
  refine congrArg (· * v (ix3 b e 4)) ?_
  generalize hi : (broadcastInDim S4x20x1 ![0, 1] bcast_S4x20_S4x20x1_0_1
          (select (cmpi CmpIPredicate.slt (slotClass v) (broadcastInDim S4x20 ![] bcast_S_S4x20 (constantI S_ 32 0#32)))
            (addi (slotClass v) (broadcastInDim S4x20 ![] bcast_S_S4x20 (constantI S_ 32 9#32))) (slotClass v))) = idx
  have hidx : (idx (ix3 b e 0)).toInt.toNat = k := by
    rw [← hi]
    pointwise
    rw [hc]
    interval_cases k <;> rfl
  unfold Host.gather
  refine congrArg w (funext fun d => Fin.ext ?_)
  have hsi : gather_S9x3_S4x20x1_S4x20x3_2_0_n_n_0_2_13.siIdx (ix3 b e l) (⟨0, by decide⟩ : Fin 1) = ix3 b e 0 := by
    funext d
    match d with
    | ⟨0, _⟩ => rfl
    | ⟨1, _⟩ => rfl
    | ⟨2, _⟩ => rfl
  have h1 : gather_S9x3_S4x20x1_S4x20x3_2_0_n_n_0_2_13.start (ix3 b e l) idx (0 : Fin 2)
      = min (idx (gather_S9x3_S4x20x1_S4x20x3_2_0_n_n_0_2_13.siIdx (ix3 b e l) (⟨0, by decide⟩ : Fin 1))).toInt.toNat 8 := rfl
  rw [hsi, hidx] at h1
  match d with
  | ⟨0, _⟩ =>
    change gather_S9x3_S4x20x1_S4x20x3_2_0_n_n_0_2_13.start (ix3 b e l) idx (0 : Fin 2) + 0 + 0 = k
    rw [h1]; omega
  | ⟨1, _⟩ =>
    change 0 + 0 + l.val = l.val
    omega

theorem out_apply {a : ℕ → ℕ → EReal} (h0 : ∀ c : Fin 4, v (ix3 b e ⟨c.val, by omega⟩) = Spec.slotCorner a e.val c.val)
    (h4 : v (ix3 b e 4) = Spec.slotProb a e.val) (h5 : v (ix3 b e 5) = Spec.slotCls a e.val) (l : Fin 11) :
    out table0 table1 v (ix3 b e l) = Spec.result a e.val l.val := by
  obtain ⟨k, hk, hc⟩ := Spec.slotCls_nat a e.val
  have hu : ∀ k' : ℕ, Spec.slotCls a e.val = ((k' : ℝ) : EReal) ↔ k' = k := fun k' => by
    rw [hc, EReal.coe_eq_coe_iff, Nat.cast_inj]; exact eq_comm
  have hex : ∀ P : ℕ → Prop, (∃ k' : ℕ, Spec.slotCls a e.val = ((k' : ℝ) : EReal) ∧ P k') ↔ P k := fun P =>
    ⟨fun ⟨k', h, hP⟩ => (hu k').mp h ▸ hP, fun hP => ⟨k, (hu k).mpr rfl, hP⟩⟩
  pointwise [out, slotPart]
  unfold Spec.result
  by_cases l4 : l.val < 4
  · rw [dif_pos l4, if_pos l4]
    pointwise [scaled]
    rw [h0 ⟨l.val, l4⟩]
  · rw [dif_neg l4, if_neg l4]
    by_cases l7 : l.val < 7
    · rw [dif_pos (by omega), if_pos l7, weighed_apply _ k hk (h5.trans hc), table0_apply, h4]
      by_cases hl : k / 3 = l.val - 4
      · rw [if_pos hl, if_pos ((hex _).mpr hl), one_mul]
      · rw [if_neg hl, if_neg fun q => hl ((hex _).mp q), zero_mul]
    · rw [dif_neg (by omega), if_neg l7]
      by_cases l10 : l.val < 10
      · rw [dif_pos (by omega), if_pos l10, weighed_apply _ k hk (h5.trans hc), table1_apply, h4]
        by_cases hl : k % 3 = l.val - 7
        · rw [if_pos (by simp only; omega), if_pos ((hex _).mpr hl), one_mul]
        · rw [if_neg (by simp only; omega), if_neg fun q => hl ((hex _).mp q), zero_mul]
      · rw [dif_neg (by omega), if_neg l10]
        rw [← h4]
        exact congrArg (fun c => v (ix3 b e c)) (Fin.ext (by change 4 + (l.val - 4 - 3 - 3) = 4; omega))

end Cert.Proof.RefModel

end
-- ==== Proof.ReferenceResult.lean ====
/- The reference's result, as the specification. -/
module

public import proofs.«01_k».proof.Proof.RefRows
public import proofs.«01_k».proof.Proof.RefPicks
public import proofs.«01_k».proof.Proof.RefOverlap
public import proofs.«01_k».proof.Proof.RefLoop
public import proofs.«01_k».proof.Proof.RefSlots
public import proofs.«01_k».proof.Proof.RefOut

@[expose] public section

set_option maxRecDepth 16384

noncomputable section

namespace Cert.Proof.RefModel

open Cert.ReferenceIdeal Cert.ReferenceIdeal.Gen Cert.ReferenceIdeal.Value Cert.Proof.ReferenceIdeal
open Idealize.ShloMosaic Idealize.ShloMosaic.StableHlo
open Idealize.ShloMosaic.TcCoe

section
variable {x : FVec Ideal S4x20000x14 .f32} {b : Fin 4} {a : ℕ → ℕ → EReal} (hx : Reads x b a)
include hx

theorem placesOf_apply (t : Fin 300) : placesOf x (ix2 b t) = BitVec.ofNat 32 (Spec.ranked a t.val) :=
  places_apply (score_apply hx) t

theorem startOf_apply (t : Fin 300) : startOf x (ix2 b t) = BitVec.ofBool (decide (Spec.quarter < Spec.score a (Spec.ranked a t.val))) := by
  unfold startOf
  rw [start_apply, values_apply (score_apply hx)]

theorem boxesOf_apply (t : Fin 300) (k : Fin 4) : boxesOf x (ix3 b t k) = Spec.corner a (Spec.ranked a t.val) k.val :=
  (takeBoxes_apply _ _ b t k _ (Spec.ranked_lt a t.val) (placesOf_apply hx t)).trans (corners_apply hx _ k)

theorem probsOf_apply (t : Fin 300) : probsOf x (ix2 b t) = Spec.prob a (Spec.ranked a t.val) :=
  (takeRow_apply _ _ b t _ (Spec.ranked_lt a t.val) (placesOf_apply hx t)).trans (best_apply hx _)

theorem classesOf_apply (t : Fin 300) : classesOf x (ix2 b t) = BitVec.ofNat 32 (Spec.cls a (Spec.ranked a t.val)) :=
  (takeRow_apply _ _ b t _ (Spec.ranked_lt a t.val) (placesOf_apply hx t)).trans (cls_apply hx _)

theorem movedOf_apply (t : Fin 300) (k : Fin 4) : movedOf x (ix3 b t k) = Spec.moved a t.val k.val :=
  moved_apply (boxesOf_apply hx) (classesOf_apply hx) t k

theorem iouOf_apply (i j : Fin 300) : iouOf x (ix3 b i j) = Spec.iou a i.val j.val :=
  iou_apply (movedOf_apply hx) (area_apply (movedOf_apply hx)) i j

theorem recordsOf_apply (t : Fin 300) (k : Fin 6) : recordsOf x (ix3 b t k) = column a k.val t.val :=
  records_apply (boxesOf_apply hx) (probsOf_apply hx) (classesOf_apply hx) t k

end

variable (m : (ℓ : Loc nD τ sig) → Buf (Elt Ideal) ℓ) (c : Dev nD)

/-- An entry of the reference's result. -/
theorem result_apply {b : Fin 4} {a : ℕ → ℕ → EReal} (hx : Reads (arg m c) b a) (e : Fin 20) (l : Fin 11) :
    (afterL postI (left m c) (Proc.devRef .tc main_v176) : FVec Ideal S4x20x11 .f32) (ix3 b e l) = Spec.result a e.val l.val := by
  classical
  rw [result_eq]
  have hk : Keeps (keepOf m c) b a := fun t => by
    have h := keepOf_apply (b := b) (a := a) (iouOf_apply hx) (fun j => (startOf_apply hx j).trans
      (congrArg BitVec.ofBool (decide_eq_decide.mpr ⟨fun h => ⟨j.isLt, h⟩, fun h => h.2⟩))) t
    exact h.trans (congrArg BitVec.ofBool (decide_eq_decide.mpr Iff.rfl))
  have hs := fun k : Fin 6 => slotsOf_apply hk (v := recordsOf (arg m c)) (R := column a) (recordsOf_apply hx) e k
  refine out_apply (fun k => ?_) ?_ ?_ l
  · rw [hs]
    unfold Spec.slotCorner
    refine congrArg (fun f => Spec.slot a f e.val) (funext fun t => ?_)
    unfold column
    exact if_pos k.isLt
  · rw [hs]; rfl
  · rw [hs]; rfl

end Cert.Proof.RefModel

end
-- ==== Proof.Algebra.lean ====
/- The two programs' results are equal: both are the specification's. -/
module

public import proofs.«01_k».proof.Defs
public import proofs.«01_k».proof.Proof.KernelResult
public import proofs.«01_k».proof.Proof.ReferenceResult

@[expose] public section

set_option maxRecDepth 16384

noncomputable section

namespace Cert.Proof

open Idealize.ShloMosaic
open Idealize.ShloMosaic.TcCoe

/-- Image `b` of an array is the plane of its entries. -/
theorem reads_entries (x : FVec Ideal KernelIdeal.S4x20000x14 .f32) (b : Fin 4) :
    RefModel.Reads x b (KernelIdeal.entries x b.val) := by
  intro n i
  unfold KernelIdeal.entries
  rw [dif_pos ⟨b.isLt, n.isLt, i.isLt⟩, ix3_eq_valueIdx]

theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (StableHlo.afterL Cert.ReferenceIdeal.Value.postI (ReferenceIdeal.left m' c) (Proc.devRef .tc Cert.ReferenceIdeal.main_v176) : FVec Ideal Cert.ReferenceIdeal.S4x20x11 .f32)
      = KernelIdeal.outAt m c KernelIdeal.only := by
  funext i
  idx_vars i
  have hx : RefModel.Reads (RefModel.arg m' c) i0 (KernelIdeal.entries
      (m ((c.tc : Thread Cert.KernelIdeal.nD Cert.KernelIdeal.τ).loc Cert.KernelIdeal.main_arg0)) i0.val) := by
    have e : RefModel.arg m' c = m ((c.tc : Thread Cert.KernelIdeal.nD Cert.KernelIdeal.τ).loc Cert.KernelIdeal.main_arg0) := h
    rw [e]
    exact reads_entries _ i0
  refine (RefModel.result_apply m' c hx i1 i2).trans ?_
  rw [ix3_eq_valueIdx]
  exact (KernelIdeal.outAt_apply m c i0 i1 i2).symm

theorem algebraic : Cert.algebraic_KernelIdeal_ReferenceIdeal (hKernelIdeal := Cert.KernelIdeal.Gen.facts) (hReferenceIdeal := Cert.ReferenceIdeal.Gen.facts) :=
  fun m g m' g' _ h => ⟨fun c => KernelIdeal.outAt m c KernelIdeal.only, KernelIdeal.ran m g,
    (θ_run _ _ _).mono (fun _ hr c => ⟨(hr c).1.trans (results_eq m m' c (h c)), (hr c).2⟩) (ReferenceIdeal.ran m' g')⟩

end Cert.Proof

end
-- ==== Proof.lean ====
/- The certificate: the launches of the two kernels, the reference's run, and the claims assembled. -/
module

public import proofs.«01_k».proof.Defs
public import proofs.«01_k».proof.Proof.KernelFrame
public import proofs.«01_k».proof.Proof.IdealFrame
public import proofs.«01_k».proof.Proof.ReferenceRun
public import proofs.«01_k».proof.Proof.Algebra

@[expose] public section

noncomputable section

namespace Cert.Proof

open Idealize.ShloMosaic

theorem claim : Cert.Claim :=
  ⟨Cert.Kernel.Gen.facts, Cert.KernelIdeal.Gen.facts, Cert.ReferenceIdeal.Gen.facts,
    fun m g _ => Cert.Proof.Kernel.framed m g,
    fun m g _ => Cert.Proof.KernelIdeal.framed m g,
    fun m g _ => Cert.Proof.ReferenceIdeal.framed m g,
    trivial, algebraic⟩

end Cert.Proof

end
